-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_some_length [hPre_some_length : Cert.Pre_some_length.Facts] (m : (ℓ : Loc Cert.KernelIdeal.nD Cert.KernelIdeal.τ Cert.KernelIdeal.sig) → Buf (Elt Ideal) ℓ) : Prop :=
  ∀ c : Dev Cert.KernelIdeal.nD,
    (Cert.Pre_some_length.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_some_length [hPre_some_length : Cert.Pre_some_length.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_some_length.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_some_length [hKernelIdeal : Cert.KernelIdeal.Facts] [hPre_some_length : Cert.Pre_some_length.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_some_length m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_some_length [hReferenceIdeal : Cert.ReferenceIdeal.Facts] [hPre_some_length : Cert.Pre_some_length.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_some_length m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  True

def algebraic_KernelIdeal_ReferenceIdeal_pre_some_length [hKernelIdeal : Cert.KernelIdeal.Facts] [hReferenceIdeal : Cert.ReferenceIdeal.Facts] [hPre_some_length : Cert.Pre_some_length.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_some_length m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_v8_0)) (v2 : (c : Dev Cert.KernelIdeal.nD) → Buf (Elt Ideal) ((c.tc : Thread Cert.KernelIdeal.nD Cert.KernelIdeal.τ).loc Cert.KernelIdeal.main_v8_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_v8_0) = v1 c
          ∧ r.2.mem ((c.tc : Thread Cert.KernelIdeal.nD Cert.KernelIdeal.τ).loc Cert.KernelIdeal.main_v8_1) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_values) = v1 c
          ∧ r.2.mem ((c.tc : Thread Cert.ReferenceIdeal.nD Cert.ReferenceIdeal.τ).loc Cert.ReferenceIdeal.main_indices) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_some_length : Cert.Pre_some_length.Facts),
    quiescent_Kernel (hKernel := hKernel)
    ∧ quiescent_KernelIdeal (hKernelIdeal := hKernelIdeal)
    ∧ quiescent_KernelIdeal_pre_some_length (hKernelIdeal := hKernelIdeal) (hPre_some_length := hPre_some_length)
    ∧ quiescent_ReferenceIdeal (hReferenceIdeal := hReferenceIdeal)
    ∧ quiescent_ReferenceIdeal_pre_some_length (hReferenceIdeal := hReferenceIdeal) (hPre_some_length := hPre_some_length)
    ∧ preserves_Kernel_KernelIdeal
    ∧ algebraic_KernelIdeal_ReferenceIdeal_pre_some_length (hKernelIdeal := hKernelIdeal) (hReferenceIdeal := hReferenceIdeal) (hPre_some_length := hPre_some_length)
-- ==== Pre_some_length.lean ====
abbrev S100000x768 : Shape := ⟨2, ![100000, 768]⟩
abbrev S1x768 : Shape := ⟨2, ![1, 768]⟩
abbrev S100000 : Shape := ⟨1, ![100000]⟩
abbrev S_ : Shape := ⟨0, ![]⟩

class Facts : Prop where
  bcast_S_S100000 : S_.BroadcastsInDim S100000 (![] : Fin 0 → Fin S100000.rank)

variable [Facts]

def fn {F : FTy → Type} [FloatOps F] (main_arg0 : FVec F S100000x768 .f32) (main_arg1 : FVec F S100000x768 .f32) (main_arg2 : FVec F S100000x768 .f32) (main_arg3 : FVec F S100000x768 .f32) (main_arg4 : FVec F S1x768 .f32) (main_arg5 : FVec F S1x768 .f32) (main_arg6 : FVec F S1x768 .f32) (main_arg7 : FVec F S1x768 .f32) (main_arg8 : IVec S100000 32) (main_arg9 : IVec S_ 32) : IVec S100000 1 :=
  let main_c : IVec S_ 32 := constantI S_ 32 0#32
  let main_v0 : IVec S100000 32 := broadcastInDim S100000 ![] bcast_S_S100000 main_c
  let main_v1 : IVec S100000 1 := cmpi .ne main_arg8 main_v0
  let main_c_0 : IVec S_ 32 := constantI S_ 32 0#32
  let main_v2 : IVec S_ 1 := cmpi .ne main_arg9 main_c_0
  let main_v3 : IVec S100000 1 := broadcastInDim S100000 ![] bcast_S_S100000 main_v2
  let main_v4 : IVec S100000 1 := ori main_v1 main_v3
  main_v4
-- ==== Kernel.lean ====
abbrev S100000x768 : Shape := ⟨2, ![100000, 768]⟩
abbrev S1x768 : Shape := ⟨2, ![1, 768]⟩
abbrev S100000 : Shape := ⟨1, ![100000]⟩
abbrev S_ : Shape := ⟨0, ![]⟩
abbrev S1x1 : Shape := ⟨2, ![1, 1]⟩
abbrev S50x1x2000 : Shape := ⟨3, ![50, 1, 2000]⟩
abbrev S2000x768 : Shape := ⟨2, ![2000, 768]⟩
abbrev S1x1x2000 : Shape := ⟨3, ![1, 1, 2000]⟩
abbrev S2000 : Shape := ⟨1, ![2000]⟩
abbrev S2000x1 : Shape := ⟨2, ![2000, 1]⟩
abbrev S1x1x768 : Shape := ⟨3, ![1, 1, 768]⟩
abbrev S1 : Shape := ⟨1, ![1]⟩
abbrev S1x1x1 : Shape := ⟨3, ![1, 1, 1]⟩
abbrev S1x2000 : Shape := ⟨2, ![1, 2000]⟩
abbrev S352 : Shape := ⟨1, ![352]⟩
abbrev S100352 : Shape := ⟨1, ![100352]⟩
abbrev S784x128 : Shape := ⟨2, ![784, 128]⟩
abbrev S4 : Shape := ⟨1, ![4]⟩
abbrev S1x784x128 : Shape := ⟨3, ![1, 784, 128]⟩

abbrev nBuf : Space → Nat
  | .hbm => 21
  | .vmem => 17
  | .smem => 3
  | _ => 0

abbrev bufTy : (tb : Table) → Fin (tcTables nBuf tb) → BufTy
  | .hbm, ⟨0, _⟩ => ⟨S100000x768, .f32⟩
  | .hbm, ⟨1, _⟩ => ⟨S100000x768, .f32⟩
  | .hbm, ⟨2, _⟩ => ⟨S100000x768, .f32⟩
  | .hbm, ⟨3, _⟩ => ⟨S100000x768, .f32⟩
  | .hbm, ⟨4, _⟩ => ⟨S1x768, .f32⟩
  | .hbm, ⟨5, _⟩ => ⟨S1x768, .f32⟩
  | .hbm, ⟨6, _⟩ => ⟨S1x768, .f32⟩
  | .hbm, ⟨7, _⟩ => ⟨S1x768, .f32⟩
  | .hbm, ⟨8, _⟩ => ⟨S100000, .i32⟩
  | .hbm, ⟨9, _⟩ => ⟨S_, .i32⟩
  | .hbm, ⟨10, _⟩ => ⟨S_, .f32⟩
  | .hbm, ⟨11, _⟩ => ⟨S1x1, .f32⟩
  | .hbm, ⟨12, _⟩ => ⟨S50x1x2000, .i32⟩
  | .hbm, ⟨13, _⟩ => ⟨S50x1x2000, .f32⟩
  | .hbm, ⟨14, _⟩ => ⟨S100000, .f32⟩
  | .hbm, ⟨15, _⟩ => ⟨S_, .f32⟩
  | .hbm, ⟨16, _⟩ => ⟨S352, .f32⟩
  | .hbm, ⟨17, _⟩ => ⟨S100352, .f32⟩
  | .hbm, ⟨18, _⟩ => ⟨S784x128, .f32⟩
  | .hbm, ⟨19, _⟩ => ⟨S4, .f32⟩
  | .hbm, ⟨20, _⟩ => ⟨S4, .i32⟩
  | .local _ .vmem, ⟨0, _⟩ => ⟨S2000x768, .f32⟩
  | .local _ .vmem, ⟨1, _⟩ => ⟨S2000x768, .f32⟩
  | .local _ .vmem, ⟨2, _⟩ => ⟨S2000x768, .f32⟩
  | .local _ .vmem, ⟨3, _⟩ => ⟨S2000x768, .f32⟩
  | .local _ .vmem, ⟨4, _⟩ => ⟨S2000x768, .f32⟩
  | .local _ .vmem, ⟨5, _⟩ => ⟨S2000x768, .f32⟩
  | .local _ .vmem, ⟨6, _⟩ => ⟨S2000x768, .f32⟩
  | .local _ .vmem, ⟨7, _⟩ => ⟨S2000x768, .f32⟩
  | .local _ .vmem, ⟨8, _⟩ => ⟨S1x768, .f32⟩
  | .local _ .vmem, ⟨9, _⟩ => ⟨S1x768, .f32⟩
  | .local _ .vmem, ⟨10, _⟩ => ⟨S1x768, .f32⟩
  | .local _ .vmem, ⟨11, _⟩ => ⟨S1x768, .f32⟩
  | .local _ .vmem, ⟨12, _⟩ => ⟨S1x1x2000, .i32⟩
  | .local _ .vmem, ⟨13, _⟩ => ⟨S1x1x2000, .i32⟩
  | .local _ .vmem, ⟨14, _⟩ => ⟨S1x1x2000, .f32⟩
  | .local _ .vmem, ⟨15, _⟩ => ⟨S1x1x2000, .f32⟩
  | .local _ .vmem, ⟨16, _⟩ => ⟨S784x128, .f32⟩
  | .local _ .smem, ⟨0, _⟩ => ⟨S1x1, .f32⟩
  | .local _ .smem, ⟨1, _⟩ => ⟨S4, .f32⟩
  | .local _ .smem, ⟨2, _⟩ => ⟨S4, .i32⟩
  | _, _ => ⟨S100000x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8_0 : Ref sig .tc := ⟨.hbm, 19, rfl⟩
abbrev main_v8_1 : Ref sig .tc := ⟨.hbm, 20, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc1_stg0_0 : Ref sig .tc := ⟨.vmem, 16, rfl⟩
abbrev cc0_stg0_0 : Ref sig .tc := ⟨.smem, 0, rfl⟩
abbrev cc1_stg1_0 : Ref sig .tc := ⟨.smem, 1, rfl⟩
abbrev cc1_stg2_0 : Ref sig .tc := ⟨.smem, 2, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14
abbrev cc0_sem10_0 : DmaSem sig := 15
abbrev cc0_sem10_1 : DmaSem sig := 16
abbrev cc1_sem0_0 : DmaSem sig := 17
abbrev cc1_sem1_0 : DmaSem sig := 18
abbrev cc1_sem2_0 : DmaSem sig := 19

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .smem S1x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2000x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2000x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2000x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x768 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x768 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x768 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1x1x2000 .i32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x1x2000 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev grid1 : Pipeline.Grid := .none

abbrev stage1_0 : Fin 1 → Memref sig .tc .vmem S784x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .smem S4 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .smem S4 .i32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
-- ==== ReferenceIdeal.lean ====
abbrev S100000x768 : Shape := ⟨2, ![100000, 768]⟩
abbrev S1x768 : Shape := ⟨2, ![1, 768]⟩
abbrev S100000 : Shape := ⟨1, ![100000]⟩
abbrev S_ : Shape := ⟨0, ![]⟩
abbrev S100000x1 : Shape := ⟨2, ![100000, 1]⟩
abbrev S1 : Shape := ⟨1, ![1]⟩
abbrev S1x1 : Shape := ⟨2, ![1, 1]⟩
abbrev S4 : Shape := ⟨1, ![4]⟩

abbrev nBuf : Space → Nat
  | .hbm => 128
  | .vmem => 0
  | .smem => 0
  | _ => 0

abbrev bufTy : (tb : Table) → Fin (tcTables nBuf tb) → BufTy
  | .hbm, ⟨0, _⟩ => ⟨S100000x768, .f32⟩
  | .hbm, ⟨1, _⟩ => ⟨S100000x768, .f32⟩
  | .hbm, ⟨2, _⟩ => ⟨S100000x768, .f32⟩
  | .hbm, ⟨3, _⟩ => ⟨S100000x768, .f32⟩
  | .hbm, ⟨4, _⟩ => ⟨S1x768, .f32⟩
  | .hbm, ⟨5, _⟩ => ⟨S1x768, .f32⟩
  | .hbm, ⟨6, _⟩ => ⟨S1x768, .f32⟩
  | .hbm, ⟨7, _⟩ => ⟨S1x768, .f32⟩
  | .hbm, ⟨8, _⟩ => ⟨S100000, .i32⟩
  | .hbm, ⟨9, _⟩ => ⟨S_, .i32⟩
  | .hbm, ⟨10, _⟩ => ⟨S100000, .f32⟩
  | .hbm, ⟨11, _⟩ => ⟨S_, .f32⟩
  | .hbm, ⟨12, _⟩ => ⟨S100000, .f32⟩
  | .hbm, ⟨13, _⟩ => ⟨S100000, .f32⟩
  | .hbm, ⟨14, _⟩ => ⟨S100000, .f32⟩
  | .hbm, ⟨15, _⟩ => ⟨S100000, .f32⟩
  | .hbm, ⟨16, _⟩ => ⟨S100000, .f32⟩
  | .hbm, ⟨17, _⟩ => ⟨S100000, .f32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .f32⟩
  | .hbm, ⟨22, _⟩ => ⟨S100000, .f32⟩
  | .hbm, ⟨23, _⟩ => ⟨S100000x768, .f32⟩
  | .hbm, ⟨24, _⟩ => ⟨S_, .f32⟩
  | .hbm, ⟨25, _⟩ => ⟨S100000, .f32⟩
  | .hbm, ⟨26, _⟩ => ⟨S100000x1, .f32⟩
  | .hbm, ⟨27, _⟩ => ⟨S100000x1, .f32⟩
  | .hbm, ⟨28, _⟩ => ⟨S_, .f32⟩
  | .hbm, ⟨29, _⟩ => ⟨S100000x1, .f32⟩
  | .hbm, ⟨30, _⟩ => ⟨S100000x1, .f32⟩
  | .hbm, ⟨31, _⟩ => ⟨S1x768, .f32⟩
  | .hbm, ⟨32, _⟩ => ⟨S_, .f32⟩
  | .hbm, ⟨33, _⟩ => ⟨S1, .f32⟩
  | .hbm, ⟨34, _⟩ => ⟨S1x1, .f32⟩
  | .hbm, ⟨35, _⟩ => ⟨S1x1, .f32⟩
  | .hbm, ⟨36, _⟩ => ⟨S_, .f32⟩
  | .hbm, ⟨37, _⟩ => ⟨S1x1, .f32⟩
  | .hbm, ⟨38, _⟩ => ⟨S1x1, .f32⟩
  | .hbm, ⟨39, _⟩ => ⟨S100000x768, .f32⟩
  | .hbm, ⟨40, _⟩ => ⟨S100000x768, .f32⟩
  | .hbm, ⟨41, _⟩ => ⟨S1x768, .f32⟩
  | .hbm, ⟨42, _⟩ => ⟨S1x768, .f32⟩
  | .hbm, ⟨43, _⟩ => ⟨S100000x768, .f32⟩
  | .hbm, ⟨44, _⟩ => ⟨S100000x768, .f32⟩
  | .hbm, ⟨45, _⟩ => ⟨S_, .f32⟩
  | .hbm, ⟨46, _⟩ => ⟨S100000, .f32⟩
  | .hbm, ⟨47, _⟩ => ⟨S100000x768, .f32⟩
  | .hbm, ⟨48, _⟩ => ⟨S_, .f32⟩
  | .hbm, ⟨49, _⟩ => ⟨S100000, .f32⟩
  | .hbm, ⟨50, _⟩ => ⟨S100000x1, .f32⟩
  | .hbm, ⟨51, _⟩ => ⟨S100000x1, .f32⟩
  | .hbm, ⟨52, _⟩ => ⟨S_, .f32⟩
  | .hbm, ⟨53, _⟩ => ⟨S100000x1, .f32⟩
  | .hbm, ⟨54, _⟩ => ⟨S100000x1, .f32⟩
  | .hbm, ⟨55, _⟩ => ⟨S1x768, .f32⟩
  | .hbm, ⟨56, _⟩ => ⟨S_, .f32⟩
  | .hbm, ⟨57, _⟩ => ⟨S1, .f32⟩
  | .hbm, ⟨58, _⟩ => ⟨S1x1, .f32⟩
  | .hbm, ⟨59, _⟩ => ⟨S1x1, .f32⟩
  | .hbm, ⟨60, _⟩ => ⟨S_, .f32⟩
  | .hbm, ⟨61, _⟩ => ⟨S1x1, .f32⟩
  | .hbm, ⟨62, _⟩ => ⟨S1x1, .f32⟩
  | .hbm, ⟨63, _⟩ => ⟨S100000x768, .f32⟩
  | .hbm, ⟨64, _⟩ => ⟨S100000x768, .f32⟩
  | .hbm, ⟨65, _⟩ => ⟨S1x768, .f32⟩
  | .hbm, ⟨66, _⟩ => ⟨S1x768, .f32⟩
  | .hbm, ⟨67, _⟩ => ⟨S100000x768, .f32⟩
  | .hbm, ⟨68, _⟩ => ⟨S100000x768, .f32⟩
  | .hbm, ⟨69, _⟩ => ⟨S_, .f32⟩
  | .hbm, ⟨70, _⟩ => ⟨S100000, .f32⟩
  | .hbm, ⟨71, _⟩ => ⟨S100000x768, .f32⟩
  | .hbm, ⟨72, _⟩ => ⟨S_, .f32⟩
  | .hbm, ⟨73, _⟩ => ⟨S100000, .f32⟩
  | .hbm, ⟨74, _⟩ => ⟨S100000x1, .f32⟩
  | .hbm, ⟨75, _⟩ => ⟨S100000x1, .f32⟩
  | .hbm, ⟨76, _⟩ => ⟨S_, .f32⟩
  | .hbm, ⟨77, _⟩ => ⟨S100000x1, .f32⟩
  | .hbm, ⟨78, _⟩ => ⟨S100000x1, .f32⟩
  | .hbm, ⟨79, _⟩ => ⟨S1x768, .f32⟩
  | .hbm, ⟨80, _⟩ => ⟨S_, .f32⟩
  | .hbm, ⟨81, _⟩ => ⟨S1, .f32⟩
  | .hbm, ⟨82, _⟩ => ⟨S1x1, .f32⟩
  | .hbm, ⟨83, _⟩ => ⟨S1x1, .f32⟩
  | .hbm, ⟨84, _⟩ => ⟨S_, .f32⟩
  | .hbm, ⟨85, _⟩ => ⟨S1x1, .f32⟩
  | .hbm, ⟨86, _⟩ => ⟨S1x1, .f32⟩
  | .hbm, ⟨87, _⟩ => ⟨S100000x768, .f32⟩
  | .hbm, ⟨88, _⟩ => ⟨S100000x768, .f32⟩
  | .hbm, ⟨89, _⟩ => ⟨S1x768, .f32⟩
  | .hbm, ⟨90, _⟩ => ⟨S1x768, .f32⟩
  | .hbm, ⟨91, _⟩ => ⟨S100000x768, .f32⟩
  | .hbm, ⟨92, _⟩ => ⟨S100000x768, .f32⟩
  | .hbm, ⟨93, _⟩ => ⟨S_, .f32⟩
  | .hbm, ⟨94, _⟩ => ⟨S100000, .f32⟩
  | .hbm, ⟨95, _⟩ => ⟨S100000x768, .f32⟩
  | .hbm, ⟨96, _⟩ => ⟨S_, .f32⟩
  | .hbm, ⟨97, _⟩ => ⟨S100000, .f32⟩
  | .hbm, ⟨98, _⟩ => ⟨S100000x1, .f32⟩
  | .hbm, ⟨99, _⟩ => ⟨S100000x1, .f32⟩
  | .hbm, ⟨100, _⟩ => ⟨S_, .f32⟩
  | .hbm, ⟨101, _⟩ => ⟨S100000x1, .f32⟩
  | .hbm, ⟨102, _⟩ => ⟨S100000x1, .f32⟩
  | .hbm, ⟨103, _⟩ => ⟨S1x768, .f32⟩
  | .hbm, ⟨104, _⟩ => ⟨S_, .f32⟩
  | .hbm, ⟨105, _⟩ => ⟨S1, .f32⟩
  | .hbm, ⟨106, _⟩ => ⟨S1x1, .f32⟩
  | .hbm, ⟨107, _⟩ => ⟨S1x1, .f32⟩
  | .hbm, ⟨108, _⟩ => ⟨S_, .f32⟩
  | .hbm, ⟨109, _⟩ => ⟨S1x1, .f32⟩
  | .hbm, ⟨110, _⟩ => ⟨S1x1, .f32⟩
  | .hbm, ⟨111, _⟩ => ⟨S100000x768, .f32⟩
  | .hbm, ⟨112, _⟩ => ⟨S100000x768, .f32⟩
  | .hbm, ⟨113, _⟩ => ⟨S1x768, .f32⟩
  | .hbm, ⟨114, _⟩ => ⟨S1x768, .f32⟩
  | .hbm, ⟨115, _⟩ => ⟨S100000x768, .f32⟩
  | .hbm, ⟨116, _⟩ => ⟨S100000x768, .f32⟩
  | .hbm, ⟨117, _⟩ => ⟨S_, .f32⟩
  | .hbm, ⟨118, _⟩ => ⟨S100000, .f32⟩
  | .hbm, ⟨119, _⟩ => ⟨S100000, .f32⟩
  | .hbm, ⟨120, _⟩ => ⟨S100000, .f32⟩
  | .hbm, ⟨121, _⟩ => ⟨S100000, .f32⟩
  | .hbm, ⟨122, _⟩ => ⟨S_, .f32⟩
  | .hbm, ⟨123, _⟩ => ⟨S100000, .f32⟩
  | .hbm, ⟨124, _⟩ => ⟨S100000, .f32⟩
  | .hbm, ⟨125, _⟩ => ⟨S100000, .f32⟩
  | .hbm, ⟨126, _⟩ => ⟨S4, .f32⟩
  | .hbm, ⟨127, _⟩ => ⟨S4, .i32⟩
  | _, _ => ⟨S100000x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_call0_v0 : Ref sig .tc := ⟨.hbm, 23, rfl⟩
abbrev main_call0_cst : Ref sig .tc := ⟨.hbm, 24, rfl⟩
abbrev main_call0_v1 : Ref sig .tc := ⟨.hbm, 25, rfl⟩
abbrev main_call0_v2 : Ref sig .tc := ⟨.hbm, 26, rfl⟩
abbrev main_v12 : Ref sig .tc := ⟨.hbm, 27, rfl⟩
abbrev main_cst_0 : Ref sig .tc := ⟨.hbm, 28, rfl⟩
abbrev main_v13 : Ref sig .tc := ⟨.hbm, 29, rfl⟩
abbrev main_v14 : Ref sig .tc := ⟨.hbm, 30, rfl⟩
abbrev main_call1_v0 : Ref sig .tc := ⟨.hbm, 31, rfl⟩
abbrev main_call1_cst : Ref sig .tc := ⟨.hbm, 32, rfl⟩
abbrev main_call1_v1 : Ref sig .tc := ⟨.hbm, 33, rfl⟩
abbrev main_call1_v2 : Ref sig .tc := ⟨.hbm, 34, rfl⟩
abbrev main_v15 : Ref sig .tc := ⟨.hbm, 35, rfl⟩
abbrev main_cst_1 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_cst_2 : Ref sig .tc := ⟨.hbm, 45, rfl⟩
abbrev main_v24 : Ref sig .tc := ⟨.hbm, 46, rfl⟩
abbrev main_call2_v0 : Ref sig .tc := ⟨.hbm, 47, rfl⟩
abbrev main_call2_cst : Ref sig .tc := ⟨.hbm, 48, rfl⟩
abbrev main_call2_v1 : Ref sig .tc := ⟨.hbm, 49, rfl⟩
abbrev main_call2_v2 : Ref sig .tc := ⟨.hbm, 50, rfl⟩
abbrev main_v25 : Ref sig .tc := ⟨.hbm, 51, rfl⟩
abbrev main_cst_3 : Ref sig .tc := ⟨.hbm, 52, rfl⟩
abbrev main_v26 : Ref sig .tc := ⟨.hbm, 53, rfl⟩
abbrev main_v27 : Ref sig .tc := ⟨.hbm, 54, rfl⟩
abbrev main_call3_v0 : Ref sig .tc := ⟨.hbm, 55, rfl⟩
abbrev main_call3_cst : Ref sig .tc := ⟨.hbm, 56, rfl⟩
abbrev main_call3_v1 : Ref sig .tc := ⟨.hbm, 57, rfl⟩
abbrev main_call3_v2 : Ref sig .tc := ⟨.hbm, 58, rfl⟩
abbrev main_v28 : Ref sig .tc := ⟨.hbm, 59, rfl⟩
abbrev main_cst_4 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_cst_5 : Ref sig .tc := ⟨.hbm, 69, rfl⟩
abbrev main_v37 : Ref sig .tc := ⟨.hbm, 70, rfl⟩
abbrev main_call4_v0 : Ref sig .tc := ⟨.hbm, 71, rfl⟩
abbrev main_call4_cst : Ref sig .tc := ⟨.hbm, 72, rfl⟩
abbrev main_call4_v1 : Ref sig .tc := ⟨.hbm, 73, rfl⟩
abbrev main_call4_v2 : Ref sig .tc := ⟨.hbm, 74, rfl⟩
abbrev main_v38 : Ref sig .tc := ⟨.hbm, 75, rfl⟩
abbrev main_cst_6 : Ref sig .tc := ⟨.hbm, 76, rfl⟩
abbrev main_v39 : Ref sig .tc := ⟨.hbm, 77, rfl⟩
abbrev main_v40 : Ref sig .tc := ⟨.hbm, 78, rfl⟩
abbrev main_call5_v0 : Ref sig .tc := ⟨.hbm, 79, rfl⟩
abbrev main_call5_cst : Ref sig .tc := ⟨.hbm, 80, rfl⟩
abbrev main_call5_v1 : Ref sig .tc := ⟨.hbm, 81, rfl⟩
abbrev main_call5_v2 : Ref sig .tc := ⟨.hbm, 82, rfl⟩
abbrev main_v41 : Ref sig .tc := ⟨.hbm, 83, rfl⟩
abbrev main_cst_7 : Ref sig .tc := ⟨.hbm, 84, rfl⟩
abbrev main_v42 : Ref sig .tc := ⟨.hbm, 85, rfl⟩
abbrev main_v43 : Ref sig .tc := ⟨.hbm, 86, rfl⟩
abbrev main_v44 : Ref sig .tc := ⟨.hbm, 87, rfl⟩
abbrev main_v45 : Ref sig .tc := ⟨.hbm, 88, rfl⟩
abbrev main_v46 : Ref sig .tc := ⟨.hbm, 89, rfl⟩
abbrev main_v47 : Ref sig .tc := ⟨.hbm, 90, rfl⟩
abbrev main_v48 : Ref sig .tc := ⟨.hbm, 91, rfl⟩
abbrev main_v49 : Ref sig .tc := ⟨.hbm, 92, rfl⟩
abbrev main_cst_8 : Ref sig .tc := ⟨.hbm, 93, rfl⟩
abbrev main_v50 : Ref sig .tc := ⟨.hbm, 94, rfl⟩
abbrev main_call6_v0 : Ref sig .tc := ⟨.hbm, 95, rfl⟩
abbrev main_call6_cst : Ref sig .tc := ⟨.hbm, 96, rfl⟩
abbrev main_call6_v1 : Ref sig .tc := ⟨.hbm, 97, rfl⟩
abbrev main_call6_v2 : Ref sig .tc := ⟨.hbm, 98, rfl⟩
abbrev main_v51 : Ref sig .tc := ⟨.hbm, 99, rfl⟩
abbrev main_cst_9 : Ref sig .tc := ⟨.hbm, 100, rfl⟩
abbrev main_v52 : Ref sig .tc := ⟨.hbm, 101, rfl⟩
abbrev main_v53 : Ref sig .tc := ⟨.hbm, 102, rfl⟩
abbrev main_call7_v0 : Ref sig .tc := ⟨.hbm, 103, rfl⟩
abbrev main_call7_cst : Ref sig .tc := ⟨.hbm, 104, rfl⟩
abbrev main_call7_v1 : Ref sig .tc := ⟨.hbm, 105, rfl⟩
abbrev main_call7_v2 : Ref sig .tc := ⟨.hbm, 106, rfl⟩
abbrev main_v54 : Ref sig .tc := ⟨.hbm, 107, rfl⟩
abbrev main_cst_10 : Ref sig .tc := ⟨.hbm, 108, rfl⟩
abbrev main_v55 : Ref sig .tc := ⟨.hbm, 109, rfl⟩
abbrev main_v56 : Ref sig .tc := ⟨.hbm, 110, rfl⟩
abbrev main_v57 : Ref sig .tc := ⟨.hbm, 111, rfl⟩
abbrev main_v58 : Ref sig .tc := ⟨.hbm, 112, rfl⟩
abbrev main_v59 : Ref sig .tc := ⟨.hbm, 113, rfl⟩
abbrev main_v60 : Ref sig .tc := ⟨.hbm, 114, rfl⟩
abbrev main_v61 : Ref sig .tc := ⟨.hbm, 115, rfl⟩
abbrev main_v62 : Ref sig .tc := ⟨.hbm, 116, rfl⟩
abbrev main_cst_11 : Ref sig .tc := ⟨.hbm, 117, rfl⟩
abbrev main_v63 : Ref sig .tc := ⟨.hbm, 118, rfl⟩
abbrev main_v64 : Ref sig .tc := ⟨.hbm, 119, rfl⟩
abbrev main_v65 : Ref sig .tc := ⟨.hbm, 120, rfl⟩
abbrev main_v66 : Ref sig .tc := ⟨.hbm, 121, rfl⟩
abbrev main_cst_12 : Ref sig .tc := ⟨.hbm, 122, rfl⟩
abbrev main_v67 : Ref sig .tc := ⟨.hbm, 123, rfl⟩
abbrev main_v68 : Ref sig .tc := ⟨.hbm, 124, rfl⟩
abbrev main_v69 : Ref sig .tc := ⟨.hbm, 125, rfl⟩
abbrev main_values : Ref sig .tc := ⟨.hbm, 126, rfl⟩
abbrev main_indices : Ref sig .tc := ⟨.hbm, 127, rfl⟩

abbrev nD : Nat := 1
abbrev τ : Topo := Topo.v7x

variable {F : FTy → Type} [FloatOps F]
-- ==== Proof.Run.lean ====
/- The kernel's run with its results: every execution ends with the three result arrays as the last region leaves them and the
   argument arrays as launched. -/
module

public import proofs.«01_k».proof.Proof.Gen.KernelIdeal.Frame

@[expose] public section

set_option maxHeartbeats 1000000
set_option synthInstance.maxSize 4096
set_option maxRecDepth 16384

noncomputable section

namespace Cert.KernelRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every execution of the kernel ends, nothing faulting, with the results as the last boundary's contents have them and the
    arguments unchanged. -/
theorem run : θ_run defs (onTc (τ := τ) (main (F := F))) ⟨m, fun _ => 0, ρ⟩ (fun r => ∀ c : Dev nD,
      (r.2.mem ((c.tc : Thread nD τ).loc main_v4) = W4 m ρ c (Proc.devRef .tc main_v4)
      ∧ r.2.mem ((c.tc : Thread nD τ).loc main_v8_0) = W4 m ρ c (Proc.devRef .tc main_v8_0)
      ∧ r.2.mem ((c.tc : Thread nD τ).loc main_v8_1) = W4 m ρ c (Proc.devRef .tc main_v8_1))
      ∧ (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h _ c =>
      ⟨⟨h c _ (mem_uc main_v4 (by decide)), h c _ (mem_uc main_v8_0 (by decide)), h c _ (mem_uc main_v8_1 (by decide))⟩,
       ⟨(h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c)⟩⟩)

end Cert.KernelRun

end
-- ==== Proof.Cosine.lean ====
/- The cosine of two vectors of extended reals, computed in two orders, and the factor of two lengths: the arithmetic that the two
   programs' scores meet on. A vector is a function on a finite type; its length is the root of its sum of squares, at least a
   fixed positive real. No condition is put on the entries: an infinite one makes the length ⊤, and both orders give 0. -/
module

public import Idealize.ShloMosaic.PureOps.Ideal.Laws
public import Mathlib.Data.EReal.Inv

@[expose] public section

noncomputable section

namespace Cert.Cosine

open Idealize.ShloMosaic

variable {κ : Type} [Fintype κ]

/-! ## Sums of extended reals -/

/-- A sum of reals, as an extended real, is the sum of the extended reals. -/
theorem coe_sum (s : Finset κ) (f : κ → ℝ) : ((∑ k ∈ s, f k : ℝ) : EReal) = ∑ k ∈ s, (f k : EReal) := by
  induction s using Finset.cons_induction with
  | empty => simp
  | cons a s ha ih => rw [Finset.sum_cons, Finset.sum_cons, EReal.coe_add, ih]

/-- The square of an extended real is at least 0. -/
theorem sq_nonneg (x : EReal) : 0 ≤ x * x := by
  induction x with
  | bot => simp
  | top => simp
  | coe r => rw [← EReal.coe_mul]; exact_mod_cast mul_self_nonneg r

/-- A sum of squares with an infinite entry is ⊤. -/
theorem sum_sq_top (x : κ → EReal) (k : κ) (hk : x k * x k = ⊤) : ∑ k, x k * x k = ⊤ := by
  refine top_le_iff.mp ?_
  rw [← hk]
  exact Finset.single_le_sum (f := fun k => x k * x k) (fun k _ => sq_nonneg (x k)) (Finset.mem_univ k)

/-- The greater of two reals, as an extended real. -/
theorem coe_max (a b : ℝ) : ((max a b : ℝ) : EReal) = max (a : EReal) (b : EReal) :=
  (EReal.coe_strictMono.monotone).map_max

/-! ## Lengths -/

/-- The least length, the binary32 word nearest 1e-8. -/
def eps : EReal := Ideal.ofBits .f32 0x322BCC77#32

/-- The least length is a positive real. -/
theorem eps_pos : ∃ e : ℝ, 0 < e ∧ eps = e := by
  refine ⟨11258999 * 2 ^ (-50 : ℤ), by norm_num, ?_⟩
  simp [eps, Ideal.ofBits, Ideal.ieee, -EReal.coe_mul]

/-- The length of a vector: the root of its sum of squares, at least `eps`. -/
def len (x : κ → EReal) : EReal := max (Ideal.sqrt (∑ k, x k * x k)) eps

/-- A length is ⊤, or a positive real, and then every entry is real. -/
theorem len_cases (x : κ → EReal) :
    len x = ⊤ ∨ (∃ a : ℝ, 0 < a ∧ len x = a) ∧ ∃ r : κ → ℝ, ∀ k, x k = r k := by
  obtain ⟨e, he, hee⟩ := eps_pos
  by_cases h : ∃ k, x k = ⊤ ∨ x k = ⊥
  · left
    obtain ⟨k, hk⟩ := h
    have : ∑ k, x k * x k = ⊤ := sum_sq_top x k (by rcases hk with hk | hk <;> rw [hk] <;> simp)
    rw [len, this, Ideal.sqrt_top]
    simp
  · right
    push Not at h
    have hr : ∀ k, x k = ((x k).toReal : EReal) := fun k => (EReal.coe_toReal (h k).1 (h k).2).symm
    refine ⟨⟨max (Real.sqrt (∑ k, (x k).toReal * (x k).toReal)) e, lt_max_of_lt_right he, ?_⟩, fun k => (x k).toReal, hr⟩
    have hs : ∑ k, x k * x k = ((∑ k, (x k).toReal * (x k).toReal : ℝ) : EReal) := by
      rw [coe_sum]
      refine Finset.sum_congr rfl fun k _ => ?_
      rw [EReal.coe_mul, ← hr k]
    rw [len, hs, Ideal.sqrt_coe, if_neg (not_lt.mpr (Finset.sum_nonneg fun k _ => mul_self_nonneg _)), hee, coe_max]

/-- A length is greater than 0. -/
theorem len_pos (x : κ → EReal) : 0 < len x := by
  rcases len_cases x with h | ⟨⟨a, ha, h⟩, -⟩
  · rw [h]; exact EReal.zero_lt_top
  · rw [h]; exact_mod_cast ha

/-! ## The cosine -/

/-- The cosine as one quotient: the product's sum over the product of the lengths. -/
def cosOne (x q : κ → EReal) : EReal := Ideal.div (∑ k, x k * q k) (len x * len q)

/-- The cosine term by term: each vector over its length first, then the product's sum. -/
def cosEach (x q : κ → EReal) : EReal := ∑ k, Ideal.div (x k) (len x) * Ideal.div (q k) (len q)

/-- A quotient by ⊤ is 0. -/
theorem div_top (x : EReal) : Ideal.div x ⊤ = 0 := by
  rw [Ideal.div, if_neg (by simp), EReal.inv_top, mul_zero]

/-- The two cosines are the same real. -/
theorem cos_real (x q : κ → EReal) : ∃ c : ℝ, cosOne x q = c ∧ cosEach x q = c := by
  rcases len_cases x with hx | ⟨⟨a, ha, hx⟩, r, hr⟩
  · refine ⟨0, ?_, ?_⟩
    · rw [cosOne, hx, EReal.top_mul_of_pos (len_pos q), div_top, EReal.coe_zero]
    · rw [cosEach, EReal.coe_zero]
      exact Finset.sum_eq_zero fun k _ => by rw [hx, div_top, zero_mul]
  rcases len_cases q with hq | ⟨⟨b, hb, hq⟩, s, hs⟩
  · refine ⟨0, ?_, ?_⟩
    · rw [cosOne, hq, EReal.mul_top_of_pos (len_pos x), div_top, EReal.coe_zero]
    · rw [cosEach, EReal.coe_zero]
      exact Finset.sum_eq_zero fun k _ => by rw [hq, div_top, mul_zero]
  refine ⟨(∑ k, r k * s k) * (1 / (a * b)), ?_, ?_⟩
  · rw [cosOne, hx, hq, ← EReal.coe_mul, Ideal.div_coe (mul_pos ha hb).ne', EReal.coe_mul, coe_sum]
    refine congrArg (· * _) (Finset.sum_congr rfl fun k _ => ?_)
    rw [hr, hs, EReal.coe_mul]
  · rw [cosEach, hx, hq, Finset.sum_mul, coe_sum]
    refine Finset.sum_congr rfl fun k _ => ?_
    rw [Ideal.div_coe ha.ne', Ideal.div_coe hb.ne', hr, hs, ← EReal.coe_mul, ← EReal.coe_mul, ← EReal.coe_mul]
    refine congrArg _ ?_
    field_simp

/-- The two cosines are equal. -/
theorem cosOne_eq_cosEach (x q : κ → EReal) : cosOne x q = cosEach x q := by
  obtain ⟨c, h, h'⟩ := cos_real x q
  rw [h, h']

/-! ## The factor of two lengths of time -/

/-- The factor `exp(−(|a − b| / max(a, b)) · 0.1)`. -/
def kin (a b : EReal) : EReal :=
  Ideal.exp (-(Ideal.div (max (a - b) (-(a - b))) (max a b)) * Ideal.ofBits .f32 0x3DCCCCCD#32)

/-- The word nearest 0.1 is a positive real. -/
theorem coef_pos : ∃ e : ℝ, 0 < e ∧ Ideal.ofBits .f32 0x3DCCCCCD#32 = e := by
  refine ⟨13421773 * 2 ^ (-27 : ℤ), by norm_num, ?_⟩
  simp [Ideal.ofBits, Ideal.ieee, -EReal.coe_mul]

/-- Of two reals that are not both 0 the factor is real. -/
theorem kin_real (a b : ℝ) (h : a ≠ 0 ∨ b ≠ 0) : ∃ c : ℝ, kin a b = c := by
  obtain ⟨e, he, hee⟩ := coef_pos
  unfold kin
  rw [hee, ← EReal.coe_sub, ← EReal.coe_neg, ← coe_max, ← coe_max]
  by_cases hm : max a b = 0
  · have hd : 0 < max (a - b) (-(a - b)) := by
      rw [← abs_eq_max_neg]
      refine abs_pos.mpr fun hab => ?_
      have : a = b := sub_eq_zero.mp hab
      subst this
      rw [max_self] at hm
      exact h.elim (· hm) (· hm)
    refine ⟨0, ?_⟩
    rw [Ideal.div, if_pos (by rw [hm]; rfl), if_pos (by exact_mod_cast hd), EReal.neg_top, EReal.bot_mul_coe_of_pos he]
    rfl
  · refine ⟨Real.exp (-(max (a - b) (-(a - b)) * (1 / max a b)) * e), ?_⟩
    rw [Ideal.div_coe hm, ← EReal.coe_mul, ← EReal.coe_neg, ← EReal.coe_mul]
    rfl

/-! ## The score -/

/-- The quarter, the binary32 word of 0.25. -/
theorem quarter : Ideal.ofBits .f32 0x3E800000#32 = ((1 / 4 : ℝ) : EReal) := by
  simp [Ideal.ofBits, Ideal.ieee, -EReal.coe_mul]; norm_num

/-- The word of 4. -/
theorem four : Ideal.ofBits .f32 0x40800000#32 = ((4 : ℝ) : EReal) := by
  simp [Ideal.ofBits, Ideal.ieee, -EReal.coe_mul]; norm_num

/-- A quotient by 4 is a quarter. -/
theorem div_four (x : EReal) : Ideal.div x (Ideal.ofBits .f32 0x40800000#32) = x * Ideal.ofBits .f32 0x3E800000#32 := by
  rw [four, quarter, Ideal.div_coe (by norm_num)]

/-- The score of four vectors against four others and of two lengths of time: the cosines' mean times the factor. -/
def score (x₁ x₂ x₃ x₄ q₁ q₂ q₃ q₄ : κ → EReal) (a b : EReal) : EReal :=
  (cosOne x₁ q₁ + cosOne x₂ q₂ + cosOne x₃ q₃ + cosOne x₄ q₄) * Ideal.ofBits .f32 0x3E800000#32 * kin a b

/-- With lengths of time that are not both 0 no score is −∞. -/
theorem score_ne_bot (x₁ x₂ x₃ x₄ q₁ q₂ q₃ q₄ : κ → EReal) (a b : ℝ) (h : a ≠ 0 ∨ b ≠ 0) :
    score x₁ x₂ x₃ x₄ q₁ q₂ q₃ q₄ a b ≠ ⊥ := by
  obtain ⟨c₁, h₁, -⟩ := cos_real x₁ q₁
  obtain ⟨c₂, h₂, -⟩ := cos_real x₂ q₂
  obtain ⟨c₃, h₃, -⟩ := cos_real x₃ q₃
  obtain ⟨c₄, h₄, -⟩ := cos_real x₄ q₄
  obtain ⟨c, hc⟩ := kin_real a b h
  rw [score, h₁, h₂, h₃, h₄, hc, quarter]
  simp only [← EReal.coe_add, ← EReal.coe_mul]
  exact EReal.coe_ne_bot _

end Cert.Cosine

end
-- ==== Proof.ScoreRow.lean ====
/- One entry of the score kernel's block: the four cosines of a row's vectors with the queries, their mean, and the factor of the
   row's length of time. -/
module

public import proofs.«01_k».proof.Proof.Gen.KernelIdeal.Skeleton
public import proofs.«01_k».proof.Proof.Cosine
public import Idealize.ShloMosaic.Lib.Pointwise

@[expose] public section

noncomputable section

namespace Cert.ScoreRow

open Idealize.ShloMosaic Cert.KernelIdeal Cert.KernelIdeal.Gen

/-- The first table's column: at row `p` the cosine of that row with the query. -/
theorem pay2_row (v0 : Vec Ideal S2000x768 .f32) (v1 : Vec Ideal S1x768 .f32) (p : Fin 2000) :
    k0_pay2 (F := Ideal) v0 v1 (ix2 p 0) = Cosine.cosOne (fun k : Fin 768 => v0 (ix2 p k)) (fun k => v1 (ix2 0 k)) := by
  pointwise [k0_pay2, Scalar.sqrt, Fin.sum_univ_one]
  rfl

/-- The first three tables' column: at row `p` the sum of the three cosines. -/
theorem pay6_row (x1 x2 x3 : Vec Ideal S2000x768 .f32) (q1 q2 q3 : Vec Ideal S1x768 .f32) (p : Fin 2000) :
    k0_pay6 (F := Ideal) (k0_pay2 x1 q1) (k0_pay3 x2 q2) (k0_pay4 x2) (k0_pay5 q2) x3 q3 (ix2 p 0)
      = Cosine.cosOne (fun k : Fin 768 => x1 (ix2 p k)) (fun k => q1 (ix2 0 k))
        + Cosine.cosOne (fun k : Fin 768 => x2 (ix2 p k)) (fun k => q2 (ix2 0 k))
        + Cosine.cosOne (fun k : Fin 768 => x3 (ix2 p k)) (fun k => q3 (ix2 0 k)) := by
  rw [← pay2_row x1 q1 p]
  generalize k0_pay2 (F := Ideal) x1 q1 = y
  pointwise [k0_pay3, k0_pay4, k0_pay5, k0_pay6, Scalar.sqrt, Fin.sum_univ_one]
  rfl

/-- The stored block at row `p`: the row's score. -/
theorem pay1_row (x1 x2 x3 x4 : Vec Ideal S2000x768 .f32) (q1 q2 q3 q4 : Vec Ideal S1x768 .f32) (l : EReal)
    (w : Vec Ideal S1x1x2000 .i32) (p : Fin 2000) :
    k0_pay1 (F := Ideal) (k0_pay6 (k0_pay2 x1 q1) (k0_pay3 x2 q2) (k0_pay4 x2) (k0_pay5 q2) x3 q3) (k0_pay7 x4 q4) (k0_pay8 x4)
        (k0_pay9 q4) (Scalar.ofBits .f32 0x322BCC77#32) l w (ix3 0 0 p)
      = Cosine.score (fun k : Fin 768 => x1 (ix2 p k)) (fun k => x2 (ix2 p k)) (fun k => x3 (ix2 p k)) (fun k => x4 (ix2 p k))
          (fun k => q1 (ix2 0 k)) (fun k => q2 (ix2 0 k)) (fun k => q3 (ix2 0 k)) (fun k => q4 (ix2 0 k))
          (FloatOps.sitofp (F := Ideal) .f32 (w (ix3 0 0 p))) l := by
  unfold Cosine.score
  rw [← pay6_row x1 x2 x3 q1 q2 q3 p]
  generalize k0_pay6 (F := Ideal) (k0_pay2 x1 q1) (k0_pay3 x2 q2) (k0_pay4 x2) (k0_pay5 q2) x3 q3 = y
  pointwise [k0_pay1, k0_pay7, k0_pay8, k0_pay9, Scalar.sqrt, Fin.sum_univ_one]
  rw [zero_sub]
  rfl

end Cert.ScoreRow

end
-- ==== Proof.ScoreBlock.lean ====
/- The block the score kernel leaves at a grid point, entry by entry, from the blocks it reads there, and the score array it fills. -/
module

public import proofs.«01_k».proof.Proof.Gen.KernelIdeal.Frame
public import proofs.«01_k».proof.Proof.ScoreRow
public import Idealize.ShloMosaic.Lib.Pipeline.ValueKit

@[expose] public section

noncomputable section

namespace Cert.ScoreBlock

open Idealize.ShloMosaic Idealize.ShloMosaic.TcCoe Idealize.ShloMosaic.Tactic Cert.KernelIdeal Cert.KernelIdeal.Gen

variable (V : (c : Dev nD) → (b : Ref sig .tc) → Buf (Elt Ideal) ((c : Thread nD τ).loc b))

/-- The block left at a point is the skeleton's final payload of the blocks read there. -/
theorem outs_pay (c : Dev nD) (t : Fin cfg0.N) :
    outsAt0 V c t = k0_pay1 (F := Ideal) (k0_pay6 (k0_pay2 (iblk0 V c 1 t) (iblk0 V c 5 t)) (k0_pay3 (iblk0 V c 2 t) (iblk0 V c 6 t))
        (k0_pay4 (iblk0 V c 2 t)) (k0_pay5 (iblk0 V c 6 t)) (iblk0 V c 3 t) (iblk0 V c 7 t)) (k0_pay7 (iblk0 V c 4 t) (iblk0 V c 8 t))
        (k0_pay8 (iblk0 V c 4 t)) (k0_pay9 (iblk0 V c 8 t)) (Scalar.ofBits .f32 0x322BCC77#32)
        ((iblk0 V c 0 t : Vec Ideal S1x1 .f32) (ix2 0 0)) (iblk0 V c 9 t) := by
  unfold outsAt0
  frame_out
  refine congrArg (fun l => k0_pay1 (F := Ideal) _ _ _ _ _ l _) ?_
  refine congrArg (iblk0 V c 0 t) (funext fun a => ?_)
  match a with
  | ⟨0, _⟩ => exact Subsingleton.elim (α := Fin 1) _ _
  | ⟨1, _⟩ => exact Subsingleton.elim (α := Fin 1) _ _

/-- Where the windows stand at a point: the tables, the lengths of time and the scores at the point's block, the rest at the start. -/
theorem idx : ∀ t : Fin cfg0.N, win0_0.index t = ![0, 0] ∧ win0_1.index t = ![t.val, 0] ∧ win0_2.index t = ![t.val, 0]
    ∧ win0_3.index t = ![t.val, 0] ∧ win0_4.index t = ![t.val, 0] ∧ win0_5.index t = ![0, 0] ∧ win0_6.index t = ![0, 0]
    ∧ win0_7.index t = ![0, 0] ∧ win0_8.index t = ![0, 0] ∧ win0_9.index t = ![t.val, 0, 0] ∧ win0_10.index t = ![t.val, 0, 0] :=
  (by decide +kernel : ∀ t : Fin grid0.N, _)

/-- A row of a table, of 100000 rows of 768. -/
def row (x : Vec Ideal S100000x768 .f32) (n : Fin 100000) : Fin 768 → EReal := fun k => x (ix2 n k)

/-- A query as a vector of 768. -/
def query (x : Vec Ideal S1x768 .f32) : Fin 768 → EReal := fun k => x (ix2 0 k)

/-- The number of a score's row: 2000 to a block. -/
def num (i : S50x1x2000.Idx) : Fin 100000 := ⟨(i 0).val * 2000 + (i 2).val, by have := (i 0).isLt; have := (i 2).isLt; simp at *; omega⟩

/-- The score array of four tables, four queries, the lengths of time (blocked) and one length. -/
def scores (x1 x2 x3 x4 : Vec Ideal S100000x768 .f32) (q1 q2 q3 q4 : Vec Ideal S1x768 .f32) (w : Vec Ideal S50x1x2000 .i32)
    (l : EReal) : Vec Ideal S50x1x2000 .f32 := fun i =>
  Cosine.score (row x1 (num i)) (row x2 (num i)) (row x3 (num i)) (row x4 (num i)) (query q1) (query q2) (query q3) (query q4)
    (FloatOps.sitofp (F := Ideal) .f32 (w i)) l

/-- What the score array holds after the region. -/
theorem arr (c : Dev nD) : (dat0 V c).arrAt 10 cfg0.N = scores (V c main_arg0) (V c main_arg1) (V c main_arg2) (V c main_arg3)
    (V c main_arg4) (V c main_arg5) (V c main_arg6) (V c main_arg7) (V c main_v2) ((V c main_v1 : Vec Ideal S1x1 .f32) (ix2 0 0)) := by
  refine (dat0 V c).arrAt_eq_of_covers 10 _ (by decide +kernel) fun t hf y => ?_
  blk_simp
  rw [after0_10, outs_pay]
  obtain ⟨i0, i1, i2, i3, i4, i5, i6, i7, i8, i9, i10⟩ := idx t
  obtain ⟨p, rfl⟩ : ∃ p : Fin 2000, y = ix3 0 0 p := by
    refine ⟨y 2, funext fun a => ?_⟩
    match a with
    | ⟨0, _⟩ => exact Subsingleton.elim (α := Fin 1) _ _
    | ⟨1, _⟩ => exact Subsingleton.elim (α := Fin 1) _ _
    | ⟨2, _⟩ => rfl
  rw [ScoreRow.pay1_row]
  unfold scores row query num
  congr 1
  · funext k; blk_ext [iblk0, i1, i10]
  · funext k; blk_ext [iblk0, i2, i10]
  · funext k; blk_ext [iblk0, i3, i10]
  · funext k; blk_ext [iblk0, i4, i10]
  · funext k; blk_ext [iblk0, i5]
  · funext k; blk_ext [iblk0, i6]
  · funext k; blk_ext [iblk0, i7]
  · funext k; blk_ext [iblk0, i8]
  · blk_ext [iblk0, i0]

end Cert.ScoreBlock

end
-- ==== Proof.Rounds.lean ====
/- Repeated maximum against a stable sort: a table of extended reals, indexed by any finite type whose elements carry pairwise
   different positions, is put through rounds that each take the greatest entry at the least position and overwrite it by −∞.
   Where enough entries are not −∞, round `r` takes the entry that a stable sort by "greater first" puts at place `r`. -/
module

public import Idealize.ShloMosaic.Lib.SortPrefix
public import Idealize.ShloMosaic.PureOps.Ideal

@[expose] public section

noncomputable section

namespace Cert.Rounds

open Idealize.ShloMosaic

/-! ## A stable sort is a sort by the value and then the position -/

/-- Inserting into and sorting an ascending list by a comparator is the same as by any comparator that agrees with it whenever
    the second element stands before the first. -/
theorem stableSort_refine {n : Nat} (A B : Fin n → Fin n → Bool) (h : ∀ a b, a < b → A b a = B b a) (l : List (Fin n))
    (hl : l.Pairwise (· < ·)) : stableSort A l = stableSort B l := by
  induction l with
  | nil => rfl
  | cons a l ih =>
    rw [List.pairwise_cons] at hl
    unfold stableSort
    rw [ih hl.2]
    exact insertBefore_congr A B a _ fun b hb => h a b (hl.1 b ((perm_stableSort B l).mem_iff.mp hb))

/-- `a` comes before `b` among the entries `x`: it is greater, or equal and at the lesser position. -/
def first {n : Nat} (x : Fin n → EReal) (a b : Fin n) : Bool :=
  decide (x b < x a) || (decide (x a = x b) && decide (a < b))

/-- "Greater, or equal and at the lesser position" is a strict total order of the positions. -/
theorem first_total {n : Nat} (x : Fin n → EReal) : StrictTotalBefore (first x) :=
  StrictTotalBefore.of_key_then_position (fun a b : EReal => decide (b < a)) x (by simp)
    (fun a b c h h' => by simp only [decide_eq_true_eq] at *; exact h'.trans h)
    (fun a b => by simp only [decide_eq_true_eq]; rcases lt_trichotomy a b with h | h | h <;> simp [h])

/-- The places of a stable sort by "greater" are those of the sort by `first`. -/
theorem sortedFrom_greater {n : Nat} (x : Fin n → EReal) :
    sortedFrom (fun k k' : Fin n => FloatOps.cmpfTotal (F := Ideal) (φ := .f32) .gt (x k) (x k') == 1#1) = sortedFrom (first x) := by
  have hs : sortPositions n (fun k k' : Fin n => FloatOps.cmpfTotal (F := Ideal) (φ := .f32) .gt (x k) (x k') == 1#1)
      = sortPositions n (first x) := by
    refine stableSort_refine _ _ (fun a b hab => ?_) _ (List.pairwise_lt_finRange n)
    have hc : (FloatOps.cmpfTotal (F := Ideal) (φ := .f32) .gt (x b) (x a) == 1#1) = decide (x a < x b) := by
      show (BitVec.ofBool (decide (x a < x b)) == 1#1) = _
      cases decide (x a < x b) <;> rfl
    rw [hc, first, show decide (b < a) = false from decide_eq_false (not_lt.mpr hab.le), Bool.and_false, Bool.or_false]
  funext k
  unfold sortedFrom
  rw [List.get_of_eq hs]
  rfl

/-! ## Rounds -/

variable {ι : Type} [DecidableEq ι]

/-- One round: `i` holds the greatest entry of `v`, no lesser position holds it, and `v'` is `v` with that entry −∞. -/
structure Round (lin : ι → Nat) (v v' : ι → EReal) (i : ι) : Prop where
  top : ∀ j, v j ≤ v i
  least : ∀ j, v j = v i → lin i ≤ lin j
  next : ∀ j, v' j = if j = i then ⊥ else v j

variable {lin : ι → Nat} {v : Nat → ι → EReal} {i : Nat → ι}

/-- Before round `r` the table is the first one with the entries taken so far −∞. -/
theorem table_eq (h : ∀ r, Round lin (v r) (v (r + 1)) (i r)) (r : Nat) (j : ι) :
    v r j = if ∃ s < r, i s = j then ⊥ else v 0 j := by
  induction r with
  | zero => simp
  | succ r ih =>
    rw [(h r).next j]
    by_cases hj : j = i r
    · rw [if_pos hj, if_pos ⟨r, Nat.lt_succ_self r, hj.symm⟩]
    · rw [if_neg hj, ih]
      refine if_congr ⟨fun ⟨s, hs, e⟩ => ⟨s, hs.trans (Nat.lt_succ_self r), e⟩, fun ⟨s, hs, e⟩ => ⟨s, ?_, e⟩⟩ rfl rfl
      rcases Nat.lt_succ_iff_lt_or_eq.mp hs with h' | rfl
      · exact h'
      · exact absurd e.symm hj

/-- With more than `r` entries that are not −∞, round `r` takes one that is not −∞. -/
theorem taken_ne_bot (h : ∀ r, Round lin (v r) (v (r + 1)) (i r)) (T : Finset ι) (hT : ∀ j ∈ T, v 0 j ≠ ⊥) (r : Nat)
    (hr : r < T.card) : v r (i r) ≠ ⊥ := by
  obtain ⟨j, hj, hn⟩ : ∃ j ∈ T, j ∉ (Finset.range r).image i := by
    by_contra hc
    push Not at hc
    have := Finset.card_le_card (show T ⊆ (Finset.range r).image i from hc)
    have := Finset.card_image_le (s := Finset.range r) (f := i)
    rw [Finset.card_range] at this
    omega
  have hv : v r j = v 0 j := by
    rw [table_eq h, if_neg]
    rintro ⟨s, hs, e⟩
    exact hn (Finset.mem_image.mpr ⟨s, Finset.mem_range.mpr hs, e⟩)
  intro hb
  have := (h r).top j
  rw [hb, le_bot_iff, hv] at this
  exact hT j hj this

/-- A round that takes an entry that is not −∞ takes none taken before, and takes the first table's entry. -/
theorem taken_new (h : ∀ r, Round lin (v r) (v (r + 1)) (i r)) (r : Nat) (hb : v r (i r) ≠ ⊥) :
    (∀ s < r, i s ≠ i r) ∧ v r (i r) = v 0 (i r) := by
  have hn : ¬ ∃ s < r, i s = i r := fun hx => hb (by rw [table_eq h, if_pos hx])
  exact ⟨fun s hs e => hn ⟨s, hs, e⟩, by rw [table_eq h, if_neg hn]⟩

/-- THE ROUNDS ARE THE SORT'S FIRST PLACES. The first table holds `x p` at the index of position `p < n` and −∞ elsewhere, and no
    `x p` is −∞: then round `r < k ≤ n` takes the entry at place `r` of a stable sort of `x`, greater first, and its position
    is that place's source. -/
theorem rounds_eq_sort {n k : Nat} (hk : k ≤ n) (x : Fin n → EReal) (hx : ∀ p, x p ≠ ⊥) (hlin : Function.Injective lin)
    (at' : Fin n → ι) (hat : ∀ p, lin (at' p) = p.val) (h0 : ∀ p, v 0 (at' p) = x p) (hpad : ∀ j, n ≤ lin j → v 0 j = ⊥)
    (h : ∀ r, Round lin (v r) (v (r + 1)) (i r)) (r : Fin k) :
    ∃ p : Fin n, sortedFrom (fun k k' : Fin n => FloatOps.cmpfTotal (F := Ideal) (φ := .f32) .gt (x k) (x k') == 1#1) (r.castLE hk) = p
      ∧ lin (i r) = p.val ∧ v r (i r) = x p := by
  have hinj : Function.Injective at' := fun a b e => Fin.ext (by rw [← hat a, ← hat b, e])
  have hb : ∀ r : Fin k, v r (i r) ≠ ⊥ := fun r => taken_ne_bot h (Finset.univ.image at')
    (fun j hj => by obtain ⟨p, -, rfl⟩ := Finset.mem_image.mp hj; rw [h0]; exact hx p) r
    (by rw [Finset.card_image_of_injective _ hinj, Finset.card_univ, Fintype.card_fin]; exact r.isLt.trans_le hk)
  have hlt : ∀ r : Fin k, lin (i r) < n := fun r => by
    by_contra hc
    exact hb r (((taken_new h r (hb r)).2).trans (hpad _ (not_lt.mp hc)))
  let σ : Fin k → Fin n := fun r => ⟨lin (i r), hlt r⟩
  have hσ : ∀ r, at' (σ r) = i r := fun r => hlin (by rw [hat])
  have hxσ : ∀ r : Fin k, v r (i r) = x (σ r) := fun r => by rw [(taken_new h r (hb r)).2, ← hσ r, h0]
  -- a position none of the rounds before `r` took is not before round `r`'s
  have key : ∀ (r : Fin k) (p : Fin n), (∀ s < r, σ s ≠ p) → first x p (σ r) = false := by
    intro r p hp
    have hv : v r (at' p) = x p := by
      rw [table_eq h, if_neg, h0]
      rintro ⟨s, hs, e⟩
      refine hp ⟨s, hs.trans r.isLt⟩ hs (Fin.ext ?_)
      show lin (i s) = p.val
      rw [e, hat]
    have htop : x p ≤ x (σ r) := by rw [← hv, ← hxσ]; exact (h r).top _
    unfold first
    rw [decide_eq_false (not_lt.mpr htop), Bool.false_or, Bool.and_eq_false_iff]
    by_cases he : x p = x (σ r)
    · refine Or.inr (decide_eq_false (not_lt.mpr ?_))
      have := (h r).least (at' p) (by rw [hv, he, hxσ])
      rw [hat] at this
      exact this
    · exact Or.inl (decide_eq_false he)
  refine ⟨σ r, ?_, rfl, hxσ r⟩
  rw [sortedFrom_greater]
  have hne : ∀ a b : Fin k, a < b → σ a ≠ σ b := fun a b hab e =>
    (taken_new h b (hb b)).1 a hab (by rw [← hσ a, ← hσ b, e])
  refine (first_total x).sortedFrom_eq_of_prefix hk σ (fun a b e => ?_) (fun a b hab => ?_) (fun a p hp => ?_) r
  · by_contra hc
    rcases lt_or_gt_of_ne hc with hl | hl
    · exact hne a b hl e
    · exact hne b a hl e.symm
  · exact key a (σ b) fun s hs => hne s b (hs.trans hab)
  · exact key a p fun s _ => hp s

end Cert.Rounds

end
-- ==== Proof.TopKRound.lean ====
/- One round of the top-k kernel on a table of 784 rows of 128: the table's greatest entry, the least number of an entry equal to it,
   and the table with that entry −∞. It is a round in the sense of `Rounds`. -/
module

public import proofs.«01_k».proof.Proof.Gen.KernelIdeal.Skeleton
public import proofs.«01_k».proof.Proof.Rounds
public import Idealize.ShloMosaic.Lib.Pointwise

@[expose] public section

noncomputable section

namespace Cert.TopKRound

open Idealize.ShloMosaic Cert.KernelIdeal Cert.KernelIdeal.Gen

/-- A table of scores. -/
abbrev Table := FVec Ideal S784x128 .f32

/-- The table's greatest entry, as the kernel computes it. -/
def maxOf (v : Table) : EReal :=
  extractAt ![0, 0, 0] (shapeCast S1x1x1 (multiReduction (F := Ideal) .maximumf [1, 2] S1
    (shapeCast S1x784x128 v shapeCasts_S784x128_S1x784x128) 0xFF800000#32 reduces_S1x784x128_S1 (.inl rfl) rfl)
    shapeCasts_S1_S1x1x1) inpos_S1x1x1_p0_0_0

/-- The least number of an entry equal to the greatest, as the kernel computes it. -/
def idxOf (v : Table) : BitVec 32 :=
  extractAt ![0, 0, 0] (shapeCast S1x1x1 (multiReductionI .minsi [1, 2] S1
    (shapeCast S1x784x128 (select (cmpf (F := Ideal) .oeq v (broadcast S784x128 (maxOf v))) k1_pay8 (broadcast S784x128 2147483647#32))
      shapeCasts_S784x128_S1x784x128) 2147483647#32 reduces_S1x784x128_S1 rfl) shapeCasts_S1_S1x1x1) inpos_S1x1x1_p0_0_0

/-- The table with the entry taken −∞. -/
def nextOf (v : Table) : Table :=
  select (cmpi .eq k1_pay8 (broadcast S784x128 (idxOf v))) (broadcast S784x128 (Scalar.ofBits (F := Ideal) .f32 0xFF800000#32)) v

/-! ## The payloads are the rounds -/

theorem pay7_eq (v : Table) : k1_pay7 (F := Ideal) v = v := by
  funext j
  exact congrArg v (Shape.reshapeEquiv_self ..)

theorem pay9_eq (v : Table) : k1_pay9 (F := Ideal) v = maxOf v := by
  unfold k1_pay9; rw [pay7_eq]; rfl
theorem pay10_eq (v : Table) : extractAt ![0, 0, 0] (k1_pay10 (F := Ideal) v) inpos_S1x1x1_p0_0_0 = idxOf v := by
  unfold k1_pay10; rw [pay9_eq, pay7_eq]; rfl
theorem pay11_eq (v : Table) : k1_pay11 (F := Ideal) v = nextOf v := by
  unfold k1_pay11; rw [pay10_eq, pay7_eq]; rfl
theorem pay12_eq (v : Table) : k1_pay12 (F := Ideal) v = maxOf (nextOf v) := by
  unfold k1_pay12; rw [pay11_eq]; rfl
theorem pay13_eq (v : Table) : extractAt ![0, 0, 0] (k1_pay13 (F := Ideal) v) inpos_S1x1x1_p0_0_0 = idxOf (nextOf v) := by
  unfold k1_pay13; rw [pay12_eq, pay11_eq]; rfl
theorem pay1_eq (v : Table) : k1_pay1 (F := Ideal) (k1_pay11 v) (k1_pay14 (F := Ideal) v) (Scalar.ofBits .f32 0xFF800000#32)
    = nextOf (nextOf v) := by
  unfold k1_pay1 k1_pay14; rw [pay13_eq, pay11_eq]; rfl
theorem pay2_eq (v : Table) : k1_pay2 (F := Ideal) (k1_pay11 v) (k1_pay14 (F := Ideal) v) (Scalar.ofBits .f32 0xFF800000#32)
    = maxOf (nextOf (nextOf v)) := by
  unfold k1_pay2; rw [pay1_eq]; rfl
theorem pay3_eq (v : Table) : extractAt ![0, 0, 0] (k1_pay3 (F := Ideal) k1_pay8 (k1_pay11 v) (k1_pay14 (F := Ideal) v)
    (Scalar.ofBits .f32 0xFF800000#32)) inpos_S1x1x1_p0_0_0 = idxOf (nextOf (nextOf v)) := by
  unfold k1_pay3; rw [pay2_eq, pay1_eq]; rfl
theorem pay4_eq (v : Table) : k1_pay4 (F := Ideal) k1_pay8 (k1_pay11 v) (k1_pay14 (F := Ideal) v) (Scalar.ofBits .f32 0xFF800000#32)
    = nextOf (nextOf (nextOf v)) := by
  unfold k1_pay4; rw [pay3_eq, pay1_eq]; rfl
theorem pay5_eq (v : Table) : k1_pay5 (F := Ideal) k1_pay8 (k1_pay11 v) (k1_pay14 (F := Ideal) v) (Scalar.ofBits .f32 0xFF800000#32)
    = maxOf (nextOf (nextOf (nextOf v))) := by
  unfold k1_pay5; rw [pay4_eq]; rfl
theorem pay6_eq (v : Table) : extractAt ![0, 0, 0] (k1_pay6 (F := Ideal) k1_pay8 (k1_pay11 v) (k1_pay14 (F := Ideal) v)
    (Scalar.ofBits .f32 0xFF800000#32)) inpos_S1x1x1_p0_0_0 = idxOf (nextOf (nextOf (nextOf v))) := by
  unfold k1_pay6; rw [pay5_eq, pay4_eq]; rfl

/-! ## What a round does -/

/-- The number of an entry: its row's number times 128 plus its column's. -/
def lin (j : S784x128.Idx) : Nat := (j 0).val * 128 + (j 1).val

theorem lin_lt (j : S784x128.Idx) : lin j < 100352 := by
  have h0 : (j 0).val < 784 := (j 0).isLt
  have h1 : (j 1).val < 128 := (j 1).isLt
  unfold lin; omega

theorem lin_injective : Function.Injective lin := fun j j' h => by
  have h1 : (j 1).val < 128 := (j 1).isLt
  have h1' : (j' 1).val < 128 := (j' 1).isLt
  unfold lin at h
  funext a
  match a with
  | ⟨0, _⟩ => exact Fin.ext (show (j 0).val = (j' 0).val by omega)
  | ⟨1, _⟩ => exact Fin.ext (show (j 1).val = (j' 1).val by omega)

/-- The kernel's word of an entry's number. -/
theorem pay8_eq (j : S784x128.Idx) : k1_pay8 j = BitVec.ofNat 32 (lin j) := by
  have h0 : (j 0).val < 784 := (j 0).isLt
  have h1 : (j 1).val < 128 := (j 1).isLt
  pointwise [k1_pay8]
  simp [IntOp.addi, IntOp.muli, lin, BitVec.ofNat_add, BitVec.ofNat_mul]

/-- An entry's word read as an integer is its number. -/
theorem pay8_toInt (j : S784x128.Idx) : (k1_pay8 j).toInt = (lin j : Int) := by
  have h := lin_lt j
  rw [pay8_eq, BitVec.toInt_eq_toNat_of_lt (by rw [BitVec.toNat_ofNat, Nat.mod_eq_of_lt (by omega)]; omega), BitVec.toNat_ofNat,
    Nat.mod_eq_of_lt (by omega)]

/-- The word of −∞. -/
theorem bot_word : Ideal.ofBits .f32 0xFF800000#32 = ⊥ := by
  simp [Ideal.ofBits, Ideal.ieee]

theorem cmpi_apply {s : Shape} {w : Nat} (p : CmpIPredicate) (x y : IVec s w) (i : s.Idx) :
    cmpi p x y i = IntOp.cmpi p (x i) (y i) := rfl

theorem cmpi_eq {w : Nat} (x y : BitVec w) : IntOp.cmpi .eq x y = BitVec.ofBool (x == y) := rfl

theorem scalar_word (w : BitVec 32) : Scalar.ofBits (F := Ideal) .f32 w = Ideal.ofBits .f32 w := rfl

/-- A table under its leading unit axis. -/
theorem cast_apply {α : Type} (x : S784x128.Idx → α) (h : S784x128.ShapeCasts S1x784x128) (i : S1x784x128.Idx) :
    shapeCast S1x784x128 x h i = x (Shape.reshapeEquiv h i) := rfl

/-- Every entry reduces to the one entry of the result. -/
theorem filter_univ (j : S1.Idx) : (Finset.univ.filter fun i => reduces_S1x784x128_S1.drop i = j) = Finset.univ := by
  refine Finset.filter_true_of_mem fun i _ => funext fun a => ?_
  match a with
  | ⟨0, _⟩ => exact Subsingleton.elim (α := Fin 1) _ _

/-- The one entry of a one-entry vector, taken out under two leading unit axes. -/
theorem extract_cast {α : Type} (x : S1.Idx → α) :
    ∃ j : S1.Idx, extractAt ![0, 0, 0] (shapeCast S1x1x1 x shapeCasts_S1_S1x1x1) inpos_S1x1x1_p0_0_0 = x j := ⟨_, rfl⟩

/-- The greatest entry is the maximum's fold over the table. -/
theorem maxOf_fold (v : Table) : maxOf v
    = (Finset.univ : Finset S1x784x128.Idx).fold max ⊥ (shapeCast S1x784x128 v shapeCasts_S784x128_S1x784x128) := by
  have h : ∃ j : S1.Idx, maxOf v = multiReduction (F := Ideal) .maximumf [1, 2] S1
      (shapeCast S1x784x128 v shapeCasts_S784x128_S1x784x128) 0xFF800000#32 reduces_S1x784x128_S1 (.inl rfl) rfl j := extract_cast _
  obtain ⟨j, h⟩ := h
  refine h.trans ((multiReduction_maximumf_eq_fold (F := Ideal) _ _ _ _ _ j).trans ?_)
  rw [filter_univ, ← bot_word]
  rfl

/-- No entry is greater than the greatest. -/
theorem le_maxOf (v : Table) (j : S784x128.Idx) : v j ≤ maxOf v := by
  obtain ⟨i, rfl⟩ := (Shape.reshapeEquiv shapeCasts_S784x128_S1x784x128).surjective j
  rw [maxOf_fold]
  exact (Finset.le_fold_max _).mpr (.inr ⟨i, Finset.mem_univ i, le_refl _⟩)

/-- The greatest entry is an entry. -/
theorem exists_maxOf (v : Table) : ∃ j, v j = maxOf v := by
  rcases (Finset.le_fold_max (maxOf v)).mp (le_of_eq (maxOf_fold v)) with h | ⟨i, -, h⟩
  · exact ⟨ix2 0 0, le_antisymm (le_maxOf v _) (h.trans bot_le)⟩
  · exact ⟨_, le_antisymm (le_maxOf v _) h⟩

/-- The word that competes for the least: the entry's number where the entry is the greatest, else the greatest word. -/
def cand (v : Table) (j : S784x128.Idx) : BitVec 32 :=
  select (cmpf (F := Ideal) .oeq v (broadcast S784x128 (maxOf v))) k1_pay8 (broadcast S784x128 2147483647#32) j

open Classical in
theorem cand_toInt (v : Table) (j : S784x128.Idx) :
    (cand v j).toInt = if v j = maxOf v then (lin j : Int) else 2147483647 := by
  have h : cand v j = Scalar.select (Ideal.cmp .oeq (v j) (maxOf v)) (k1_pay8 j) 2147483647#32 := by
    unfold cand
    rw [ValueIdx.select_apply, ValueIdx.cmpf_apply, ValueIdx.broadcast_apply, ValueIdx.broadcast_apply, Ideal.cmpf_def]
  rw [h]
  by_cases hv : v j = maxOf v
  · rw [if_pos hv, show Ideal.cmp .oeq (v j) (maxOf v) = 1#1 by simp [Ideal.cmp, hv]]
    exact pay8_toInt j
  · rw [if_neg hv, show Ideal.cmp .oeq (v j) (maxOf v) = 0#1 by simp [Ideal.cmp, hv]]
    rfl

theorem minsi_toInt (x y : BitVec 32) : (IntOp.minsi x y).toInt = min x.toInt y.toInt := by
  unfold IntOp.minsi
  simp only [BitVec.slt, decide_eq_true_eq]
  split <;> omega

/-- The least number is the minimum's fold over the candidates. -/
theorem idxOf_fold (v : Table) : (idxOf v).toInt = (Finset.univ : Finset S1x784x128.Idx).fold min 2147483647
    (fun i => (cand v (Shape.reshapeEquiv shapeCasts_S784x128_S1x784x128 i)).toInt) := by
  have h : ∃ j : S1.Idx, idxOf v = multiReductionI .minsi [1, 2] S1
      (shapeCast S1x784x128 (cand v) shapeCasts_S784x128_S1x784x128) 2147483647#32 reduces_S1x784x128_S1 rfl j := extract_cast _
  obtain ⟨j, h⟩ := h
  rw [h.trans (multiReductionI_eq_fold _ _ _ _ _ j), filter_univ]
  exact (Finset.fold_hom (op := IntOp.minsi) (op' := min) (m := BitVec.toInt) minsi_toInt).symm

/-- The least number is the number of an entry equal to the greatest, and no such entry has a lesser one. -/
theorem idxOf_spec (v : Table) : ∃ j, v j = maxOf v ∧ (idxOf v).toInt = (lin j : Int) ∧ ∀ j', v j' = maxOf v → lin j ≤ lin j' := by
  have hle : ∀ j, (idxOf v).toInt ≤ (cand v j).toInt := fun j => by
    obtain ⟨i, rfl⟩ := (Shape.reshapeEquiv shapeCasts_S784x128_S1x784x128).surjective j
    exact ((Finset.le_fold_min _).mp (le_of_eq (idxOf_fold v))).2 i (Finset.mem_univ i)
  obtain ⟨j₀, hj₀⟩ := exists_maxOf v
  have h₀ := hle j₀
  rw [cand_toInt, if_pos hj₀] at h₀
  have hlt := lin_lt j₀
  rcases (Finset.fold_min_le _).mp (le_of_eq (idxOf_fold v).symm) with h | ⟨i, -, h⟩
  · omega
  · have hi := le_antisymm (hle _) h
    generalize Shape.reshapeEquiv shapeCasts_S784x128_S1x784x128 i = j at hi
    rw [cand_toInt] at hi
    by_cases hv : v j = maxOf v
    · rw [if_pos hv] at hi
      refine ⟨j, hv, hi, fun j' hj' => ?_⟩
      have := hle j'
      rw [cand_toInt, if_pos hj', hi] at this
      exact_mod_cast this
    · rw [if_neg hv] at hi
      omega

/-- The place taken in a round. -/
def place (v : Table) : S784x128.Idx := (idxOf_spec v).choose

theorem place_max (v : Table) : v (place v) = maxOf v := (idxOf_spec v).choose_spec.1

/-- The word of the place's number is the least number. -/
theorem idxOf_eq (v : Table) : idxOf v = BitVec.ofNat 32 (lin (place v)) := by
  have h := (idxOf_spec v).choose_spec.2.1
  rw [← pay8_toInt] at h
  rw [← pay8_eq]
  exact BitVec.eq_of_toInt_eq h

/-- A round of the kernel is a round. -/
theorem round (v : Table) : Rounds.Round lin v (nextOf v) (place v) where
  top j := (le_maxOf v j).trans (le_of_eq (place_max v).symm)
  least j h := (idxOf_spec v).choose_spec.2.2 j (h.trans (place_max v))
  next j := by
    have h : nextOf v j = Scalar.select (IntOp.cmpi .eq (k1_pay8 j) (idxOf v)) (Ideal.ofBits .f32 0xFF800000#32) (v j) := by
      unfold nextOf
      rw [ValueIdx.select_apply, ValueIdx.broadcast_apply, cmpi_apply, ValueIdx.broadcast_apply, scalar_word]
    have hiff : k1_pay8 j = idxOf v ↔ j = place v := by
      rw [pay8_eq, idxOf_eq]
      refine ⟨fun e => lin_injective ?_, fun e => by rw [e]⟩
      have := congrArg BitVec.toNat e
      have h1 := lin_lt j
      have h2 := lin_lt (place v)
      simp only [BitVec.toNat_ofNat] at this
      omega
    rw [h, bot_word]
    by_cases hj : j = place v
    · rw [if_pos hj, show IntOp.cmpi .eq (k1_pay8 j) (idxOf v) = 1#1 by
        rw [hiff.mpr hj]; simp [IntOp.cmpi]]
      rfl
    · rw [if_neg hj, show IntOp.cmpi .eq (k1_pay8 j) (idxOf v) = 0#1 by
        rw [cmpi_eq, beq_eq_false_iff_ne.mpr fun e => hj (hiff.mp e)]; rfl]
      rfl

end Cert.TopKRound

end
-- ==== Proof.TopKBlock.lean ====
/- What the top-k kernel leaves in its two result arrays: at place `r` the greatest entry of the table after `r` rounds, and the
   least number of an entry equal to it. -/
module

public import proofs.«01_k».proof.Proof.Gen.KernelIdeal.Frame
public import proofs.«01_k».proof.Proof.TopKRound
public import Idealize.ShloMosaic.Lib.Pipeline.ValueKit
public import Idealize.ShloMosaic.Lib.Pipeline.ReadBack

@[expose] public section

noncomputable section

namespace Cert.TopKBlock

open Idealize.ShloMosaic Idealize.ShloMosaic.TcCoe Idealize.ShloMosaic.Tactic Cert.KernelIdeal Cert.KernelIdeal.Gen Cert.TopKRound

variable (V : (c : Dev nD) → (b : Ref sig .tc) → Buf (Elt Ideal) ((c : Thread nD τ).loc b))

/-- The table after `r` rounds. -/
def after (v : TopKRound.Table) : Nat → TopKRound.Table
  | 0 => v
  | r + 1 => nextOf (after v r)

/-- A list of four one-entry writes, the last first, holds at each place that place's write. -/
theorem four {e : EltTy} (G : S4.Idx → Elt Ideal e) (w0 w1 w2 w3 : Elt Ideal e) (h0 : w0 = G (ix1 0)) (h1 : w1 = G (ix1 1))
    (h2 : w2 = G (ix1 2)) (h3 : w3 = G (ix1 3)) :
    View.canon (Val := Elt Ideal) (s := S4) (e := e)
      [⟨Rect.unit ![3] ![1] inb_S4_S1_3, fun _ => w3⟩, ⟨Rect.unit ![2] ![1] inb_S4_S1_2, fun _ => w2⟩,
        ⟨Rect.unit ![1] ![1] inb_S4_S1_1, fun _ => w1⟩, ⟨Rect.unit ![0] ![1] inb_S4_S1_0, fun _ => w0⟩] = G := by
  have hemb : ∀ (n : Fin 4) (inb) (x : (Rect.unit (s := S4) ![n.val] ![1] inb).shape.Idx),
      (Rect.unit (s := S4) ![n.val] ![1] inb).emb x = ix1 n := fun n inb x => by
    funext a
    match a with
    | ⟨0, _⟩ =>
      refine Fin.ext ?_
      have hx : (x 0).val < 1 := (x 0).isLt
      rw [ValueKit.rect_emb_unit_val]
      show n.val + (x 0).val = n.val
      omega
  have hmem : ∀ (n : Fin 4) (inb), (ix1 n : S4.Idx) ∈ (Rect.unit (s := S4) ![n.val] ![1] inb).set := fun n inb => by
    rw [Rect.mem_set_unit]
    intro a
    match a with
    | ⟨0, _⟩ => exact ⟨le_refl _, Nat.lt_succ_self _⟩
  funext y
  refine View.canon_apply_of_pieces G _ ?_ y ?_
  · intro p hp x
    simp only [List.mem_cons, List.not_mem_nil, or_false] at hp
    rcases hp with rfl | rfl | rfl | rfl
    · exact h3.trans (congrArg G (hemb 3 inb_S4_S1_3 x).symm)
    · exact h2.trans (congrArg G (hemb 2 inb_S4_S1_2 x).symm)
    · exact h1.trans (congrArg G (hemb 1 inb_S4_S1_1 x).symm)
    · exact h0.trans (congrArg G (hemb 0 inb_S4_S1_0 x).symm)
  · obtain ⟨n, rfl⟩ : ∃ n : Fin 4, y = ix1 n := ⟨y 0, by funext a; match a with | ⟨0, _⟩ => rfl⟩
    match n with
    | ⟨0, _⟩ => exact ⟨_, .tail _ (.tail _ (.tail _ (.head _))), hmem 0 inb_S4_S1_0⟩
    | ⟨1, _⟩ => exact ⟨_, .tail _ (.tail _ (.head _)), hmem 1 inb_S4_S1_1⟩
    | ⟨2, _⟩ => exact ⟨_, .tail _ (.head _), hmem 2 inb_S4_S1_2⟩
    | ⟨3, _⟩ => exact ⟨_, .head _, hmem 3 inb_S4_S1_3⟩

/-- The block read is the whole table. -/
theorem iblk_eq (c : Dev nD) (t : Fin cfg1.N) : iblk1 V c 0 t = V c main_v7 := by
  funext j
  have e : win1_0.index t = ![0, 0] := (by decide +kernel : ∀ t : Fin grid1.N, win1_0.index t = ![0, 0]) t
  blk_ext [iblk1, e]

/-- The first output's block: the greatest entries, round by round. -/
theorem outs1 (c : Dev nD) (t : Fin cfg1.N) :
    (outsAt1 V c t).1 = fun j => maxOf (after (V c main_v7) (j 0).val) := by
  unfold outsAt1
  dsimp only
  frame_out
  simp only [read_unread_whole, iblk_eq]
  refine four (e := .f32) (fun j => maxOf (after (V c main_v7) (j 0).val)) _ _ _ _ ?_ ?_ ?_ ?_
  · exact pay9_eq _
  · exact pay12_eq _
  · exact pay2_eq _
  · exact pay5_eq _

/-- The second output's block: the least numbers, round by round. -/
theorem outs2 (c : Dev nD) (t : Fin cfg1.N) :
    (outsAt1 V c t).2 = fun j => idxOf (after (V c main_v7) (j 0).val) := by
  unfold outsAt1
  dsimp only
  frame_out
  simp only [read_unread_whole, iblk_eq]
  refine four (e := .i32) (fun j => idxOf (after (V c main_v7) (j 0).val)) _ _ _ _ ?_ ?_ ?_ ?_
  · exact pay10_eq _
  · exact pay13_eq _
  · exact pay3_eq _
  · exact pay6_eq _

/-- The first result array after the region. -/
theorem arr1 (c : Dev nD) : (dat1 V c).arrAt 1 cfg1.N = fun j => maxOf (after (V c main_v7) (j 0).val) := by
  refine (dat1 V c).arrAt_eq_of_covers 1 _ (by decide +kernel) fun t hf y => ?_
  blk_simp
  rw [after1_1, outs1]
  have e : win1_1.index t = ![0] := (by decide +kernel : ∀ t : Fin grid1.N, win1_1.index t = ![0]) t
  refine congrArg (fun n => maxOf (after (V c main_v7) n)) ?_
  blk_simp [e]

/-- The second result array after the region. -/
theorem arr2 (c : Dev nD) : (dat1 V c).arrAt 2 cfg1.N = fun j => idxOf (after (V c main_v7) (j 0).val) := by
  refine (dat1 V c).arrAt_eq_of_covers 2 _ (by decide +kernel) fun t hf y => ?_
  blk_simp
  rw [after1_2, outs2]
  have e : win1_2.index t = ![0] := (by decide +kernel : ∀ t : Fin grid1.N, win1_2.index t = ![0]) t
  refine congrArg (fun n => idxOf (after (V c main_v7) n)) ?_
  blk_simp [e]

end Cert.TopKBlock

end
-- ==== Proof.KernelValue.lean ====
/- The kernel's results as functions of its arguments: the scores, and, of the scores laid out as a table whose last 352 entries are −∞,
   the greatest entries and their numbers, round by round. -/
module

public import proofs.«01_k».proof.Proof.ScoreBlock
public import proofs.«01_k».proof.Proof.TopKBlock
public import Idealize.ShloMosaic.Lib.Pointwise

@[expose] public section

noncomputable section

namespace Cert.KernelValue

open Idealize.ShloMosaic Idealize.ShloMosaic.TcCoe Idealize.ShloMosaic.Tactic Cert.KernelIdeal Cert.KernelIdeal.Gen

/-! ## The arrays as functions of the arguments -/

/-- The scores of four tables of 100000 rows, four queries, a length of time to each row and one length. -/
def scoresOf (x0 x1 x2 x3 : Vec Ideal S100000x768 .f32) (x4 x5 x6 x7 : Vec Ideal S1x768 .f32) (x8 : Vec Ideal S100000 .i32)
    (x9 : Vec Ideal S_ .i32) : Vec Ideal S100000 .f32 := fun i =>
  Cosine.score (ScoreBlock.row x0 (i 0)) (ScoreBlock.row x1 (i 0)) (ScoreBlock.row x2 (i 0)) (ScoreBlock.row x3 (i 0))
    (ScoreBlock.query x4) (ScoreBlock.query x5) (ScoreBlock.query x6) (ScoreBlock.query x7)
    (FloatOps.sitofp (F := Ideal) .f32 (x8 i)) (FloatOps.sitofp (F := Ideal) .f32 (x9 ix0))

/-- The blocked scores laid out in one row are the scores. -/
theorem scores_flat (x0 x1 x2 x3 : Vec Ideal S100000x768 .f32) (x4 x5 x6 x7 : Vec Ideal S1x768 .f32) (x8 : Vec Ideal S100000 .i32)
    (x9 : Vec Ideal S_ .i32) :
    shapeCast S100000 (ScoreBlock.scores x0 x1 x2 x3 x4 x5 x6 x7 (shapeCast S50x1x2000 x8 shapeCasts_S100000_S50x1x2000)
      (shapeCast S1x1 (sitofp (F := Ideal) .f32 (x9 : IVec S_ 32)) shapeCasts_S_S1x1 (ix2 0 0))) shapeCasts_S50x1x2000_S100000
      = scoresOf x0 x1 x2 x3 x4 x5 x6 x7 x8 x9 := by
  funext i
  obtain ⟨n, rfl⟩ : ∃ n : Fin 100000, i = ix1 n := ⟨i 0, by funext a; match a with | ⟨0, _⟩ => rfl⟩
  pointwise [ScoreBlock.scores, scoresOf]
  have e : ScoreBlock.num (ix3 ⟨n.val / 2000, by omega⟩ 0 ⟨n.val % 2000, by omega⟩) = n :=
    Fin.ext (by show n.val / 2000 * 2000 + n.val % 2000 = n.val; omega)
  rw [e]

/-- Scores laid out as a table of 784 rows of 128, −∞ behind them. -/
def tableOf (x : Vec Ideal S100000 .f32) : TopKRound.Table :=
  shapeCast S784x128 (concatenate S100352 0 [⟨S100000, x⟩,
    ⟨S352, broadcastInDim S352 ![] bcast_S_S352 (constant (F := Ideal) S_ .f32 0xFF800000#32)⟩] concatenates_S100000_S352_S100352_d0)
    shapeCasts_S100352_S784x128

/-- The place of a score in the table. -/
def at' (p : Fin 100000) : S784x128.Idx := ix2 ⟨p.val / 128, by omega⟩ ⟨p.val % 128, by omega⟩

/-- The number of the place of score `p` is `p`. -/
theorem lin_at (p : Fin 100000) : TopKRound.lin (at' p) = p.val := by
  show p.val / 128 * 128 + p.val % 128 = p.val
  omega

/-- The table holds score `p` at the place of `p`. -/
theorem tableOf_at (x : Vec Ideal S100000 .f32) (p : Fin 100000) : tableOf x (at' p) = x (ix1 p) := by
  pointwise [tableOf, at']
  have e : p.val / 128 * 128 + p.val % 128 = p.val := by omega
  rw [dif_pos (by omega)]
  exact congrArg x (congrArg ix1 (Fin.ext e))

/-- The table holds −∞ at every place whose number is not a row's. -/
theorem tableOf_pad (x : Vec Ideal S100000 .f32) (j : S784x128.Idx) (h : 100000 ≤ TopKRound.lin j) : tableOf x j = ⊥ := by
  rw [← TopKRound.bot_word]
  unfold TopKRound.lin at h
  pointwise [tableOf]
  rw [dif_neg (by omega)]

/-! ## The results -/

variable (m : (ℓ : Loc nD τ sig) → Buf (Elt Ideal) ℓ) (ρ : Dev nD → PrngReg)

/-- The length the scoring region reads: the last argument, as a number. -/
theorem W1_v1 (c : Dev nD) : W1 m ρ c (Proc.devRef .tc main_v1)
    = shapeCast S1x1 (sitofp (F := Ideal) .f32 (m ((c.tc : Thread nD τ).loc main_arg9) : IVec S_ 32)) shapeCasts_S_S1x1 := by
  after_results
  rfl

/-- The rows' lengths the scoring region reads: the ninth argument, in blocks. -/
theorem W1_v2 (c : Dev nD) : W1 m ρ c (Proc.devRef .tc main_v2)
    = shapeCast S50x1x2000 (m ((c.tc : Thread nD τ).loc main_arg8) : IVec S100000 32) shapeCasts_S100000_S50x1x2000 := by
  after_results
  rfl

/-- The first result is the scoring region's array in one row. -/
theorem W3_v4 (c : Dev nD) : W3 m ρ c (Proc.devRef .tc main_v4)
    = shapeCast S100000 (W2 m ρ c (Proc.devRef .tc main_v3) : Vec Ideal S50x1x2000 .f32) shapeCasts_S50x1x2000_S100000 := by
  after_results
  rfl

/-- The selecting region reads the scoring region's array as a table. -/
theorem W3_v7 (c : Dev nD) : W3 m ρ c (Proc.devRef .tc main_v7)
    = tableOf (shapeCast S100000 (W2 m ρ c (Proc.devRef .tc main_v3) : Vec Ideal S50x1x2000 .f32) shapeCasts_S50x1x2000_S100000) := by
  after_results
  rfl

/-- The scores of the kernel's arguments. -/
def kscores (c : Dev nD) : Vec Ideal S100000 .f32 :=
  scoresOf (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6)) (m ((c.tc : Thread nD τ).loc main_arg7)) (m ((c.tc : Thread nD τ).loc main_arg8))
    (m ((c.tc : Thread nD τ).loc main_arg9))

/-- The scoring region leaves the scores of the arguments. -/
theorem W2_flat (c : Dev nD) :
    shapeCast S100000 (W2 m ρ c (Proc.devRef .tc main_v3) : Vec Ideal S50x1x2000 .f32) shapeCasts_S50x1x2000_S100000 = kscores m c := by
  have h : W2 m ρ c (Proc.devRef .tc main_v3) = (dat0 (V1 m ρ) c).arrAt 10 cfg0.N := W2_arr m ρ c 10
  rw [h, ScoreBlock.arr]
  unfold kscores
  rw [← scores_flat]
  refine congrArg (fun f => shapeCast S100000 f shapeCasts_S50x1x2000_S100000) ?_
  have a : ∀ a ∈ argRefs, V1 m ρ c a = m ((c : Thread nD τ).loc a) := W1_args m ρ c
  rw [a main_arg0 (by decide), a main_arg1 (by decide), a main_arg2 (by decide), a main_arg3 (by decide), a main_arg4 (by decide),
    a main_arg5 (by decide), a main_arg6 (by decide), a main_arg7 (by decide),
    show V1 m ρ c main_v1 = _ from W1_v1 m ρ c, show V1 m ρ c main_v2 = _ from W1_v2 m ρ c]

/-- The kernel's first result: the scores. -/
theorem res0 (c : Dev nD) : W4 m ρ c (Proc.devRef .tc main_v4) = kscores m c := by
  rw [W4_of m ρ c main_v4 (by decide), W3_v4, W2_flat]

/-- The kernel's second result: in place `j`, the greatest entry of the table after `j` rounds. -/
theorem res1 (c : Dev nD) : W4 m ρ c (Proc.devRef .tc main_v8_0)
    = fun j => TopKRound.maxOf (TopKBlock.after (tableOf (kscores m c)) (j 0).val) := by
  have h : W4 m ρ c (Proc.devRef .tc main_v8_0) = (dat1 (V3 m ρ) c).arrAt 1 cfg1.N := W4_arr m ρ c 1
  rw [h, TopKBlock.arr1, show V3 m ρ c main_v7 = _ from W3_v7 m ρ c, W2_flat]

/-- The kernel's third result: in place `j`, the number of the greatest entry of the table after `j` rounds. -/
theorem res2 (c : Dev nD) : W4 m ρ c (Proc.devRef .tc main_v8_1)
    = fun j => TopKRound.idxOf (TopKBlock.after (tableOf (kscores m c)) (j 0).val) := by
  have h : W4 m ρ c (Proc.devRef .tc main_v8_1) = (dat1 (V3 m ρ) c).arrAt 2 cfg1.N := W4_arr m ρ c 2
  rw [h, TopKBlock.arr2, show V3 m ρ c main_v7 = _ from W3_v7 m ρ c, W2_flat]

end Cert.KernelValue

end
-- ==== Proof.RefValue.lean ====
/- The reference's results as functions of its arguments: the scores, and of them the four the sort puts first, with their numbers. -/
module

public import proofs.«01_k».proof.Proof.Gen.ReferenceIdeal.Read
public import proofs.«01_k».proof.Proof.KernelValue
public import Idealize.ShloMosaic.Lib.Pointwise
public import Idealize.ShloMosaic.Lib.SortFacts

@[expose] public section

noncomputable section

namespace Cert.RefValue

open Idealize.ShloMosaic Idealize.ShloMosaic.TcCoe Cert.ReferenceIdeal Cert.ReferenceIdeal.Gen Cert.ReferenceIdeal.Read

/-! ## The scores -/

/-- A table's row divided by its length. -/
theorem row_at (x : Vec Ideal S100000x768 .f32) (n : Fin 100000) (k : Fin 768) :
    val_main_v19 (F := Ideal) x (ix2 n k) = Ideal.div (ScoreBlock.row x n k) (Cosine.len (ScoreBlock.row x n)) := by
  pointwise [val_main_v19, val_main_v18, val_main_v14, val_main_v12, val_main_v13, val_main_cst_0, val_main_call0_v0, val_main_call0_v1,
    val_main_call0_v2, val_main_call0_cst, Cosine.len, Cosine.eps, ScoreBlock.row]

/-- A query divided by its length. -/
theorem query_at (q : Vec Ideal S1x768 .f32) (k : Fin 768) :
    val_main_v21 (F := Ideal) q (ix2 0 k) = Ideal.div (ScoreBlock.query q k) (Cosine.len (ScoreBlock.query q)) := by
  pointwise [val_main_v21, val_main_v20, val_main_v17, val_main_v15, val_main_v16, val_main_cst_1, val_main_call1_v0, val_main_call1_v1,
    val_main_call1_v2, val_main_call1_cst, Cosine.len, Cosine.eps, ScoreBlock.query]

/-- The cosines of a table's rows and a query. -/
theorem cos_at (x : Vec Ideal S100000x768 .f32) (q : Vec Ideal S1x768 .f32) (n : Fin 100000) :
    val_main_v24 (F := Ideal) x q (ix1 n) = Cosine.cosOne (ScoreBlock.row x n) (ScoreBlock.query q) := by
  rw [Cosine.cosOne_eq_cosEach]
  pointwise [val_main_v24, val_main_v23, val_main_v22, val_main_cst_2, Cosine.cosEach, row_at, query_at]

/-- The factor of two lengths of time. -/
theorem kin_at (x8 : Vec Ideal S100000 .i32) (x9 : Vec Ideal S_ .i32) (n : Fin 100000) :
    val_main_v11 (F := Ideal) x8 x9 (ix1 n)
      = Cosine.kin (FloatOps.sitofp (F := Ideal) .f32 (x8 (ix1 n))) (FloatOps.sitofp (F := Ideal) .f32 (x9 ix0)) := by
  pointwise [val_main_v11, val_main_v10, val_main_v9, val_main_v8, val_main_v7, val_main_v6, val_main_v5, val_main_v4, val_main_v3,
    val_main_v2, val_main_v1, val_main_v0, val_main_cst, Cosine.kin]
  rfl

/-- The second table's cosines are computed as the first's. -/
theorem cos_same1 : val_main_v37 (F := Ideal) = val_main_v24 (F := Ideal) := rfl
/-- So are the third table's. -/
theorem cos_same2 : val_main_v50 (F := Ideal) = val_main_v24 (F := Ideal) := rfl
/-- So are the fourth table's. -/
theorem cos_same3 : val_main_v63 (F := Ideal) = val_main_v24 (F := Ideal) := rfl

/-- The reference's first result: the scores. -/
theorem scores_eq (x0 x1 x2 x3 : Vec Ideal S100000x768 .f32) (x4 x5 x6 x7 : Vec Ideal S1x768 .f32) (x8 : Vec Ideal S100000 .i32)
    (x9 : Vec Ideal S_ .i32) :
    val_main_v69 (F := Ideal) x0 x1 x2 x3 x4 x5 x6 x7 x8 x9 = KernelValue.scoresOf x0 x1 x2 x3 x4 x5 x6 x7 x8 x9 := by
  funext i
  obtain ⟨n, rfl⟩ : ∃ n : Fin 100000, i = ix1 n := ⟨i 0, by funext a; match a with | ⟨0, _⟩ => rfl⟩
  rw [val_main_v69_apply, val_main_v68_apply, val_main_v66_apply, val_main_v65_apply, val_main_v64_apply, val_main_v67_apply,
    val_main_cst_12_apply, cos_same1, cos_same2, cos_same3, cos_at, cos_at, cos_at, cos_at, kin_at]
  show Ideal.div _ (Ideal.ofBits .f32 0x40800000#32) * _ = _
  rw [Cosine.div_four]
  rfl

/-! ## The four greatest -/

/-- The sort's order of places: the greater score first. -/
def order (x : Vec Ideal S100000 .f32) (k : Fin 4) : Fin 100000 :=
  sortedFrom (fun k k' : Fin 100000 => FloatOps.cmpfTotal (F := Ideal) (φ := .f32) .gt (x (ix1 k)) (x (ix1 k')) == 1#1)
    (k.castLE (by decide))

/-- Along the one axis, an index's place is the coordinate put there. -/
theorem along_eq (j : S100000.Idx) (k : Fin 100000) : j.along (0 : Fin 1) k = ix1 k := by
  funext a
  match a with
  | ⟨0, _⟩ => exact congrFun (Shape.Idx.along_rank1 j k) 0

/-- The four greatest scores are those of the places the sort puts first. -/
theorem values_eq (x : Vec Ideal S100000 .f32) :
    (Host.topK S4 0 (FloatOps.cmpfTotal (F := Ideal) (φ := .f32) .gt) x sliceFits_S100000_S4).1 = fun j => x (ix1 (order x (j 0))) := by
  funext j
  unfold Host.topK Host.sort2 order
  pointwise
  simp only [along_eq]
  rfl

/-- Their numbers are those places. -/
theorem indices_eq (x : Vec Ideal S100000 .f32) :
    (Host.topK S4 0 (FloatOps.cmpfTotal (F := Ideal) (φ := .f32) .gt) x sliceFits_S100000_S4).2
      = fun j => BitVec.ofNat 32 (order x (j 0)).val := by
  funext j
  unfold Host.topK Host.sort2 order
  pointwise
  simp only [along_eq]
  rfl

end Cert.RefValue

end
-- ==== Proof.Equation.lean ====
/- The kernel's three results are the reference's, of arguments in which no row's length of time and the one length are both 0. -/
module

public import proofs.«01_k».proof.Proof.RefValue
public import proofs.«01_k».proof.Proof.Rounds
public import proofs.«01_k».proof.Pre_some_length

@[expose] public section

noncomputable section

namespace Cert.Equation

open Idealize.ShloMosaic Idealize.ShloMosaic.TcCoe Cert.KernelIdeal

/-- The place the table's round `r` takes out. -/
def placeOf (x : Vec Ideal S100000 .f32) (r : Nat) : S784x128.Idx := TopKRound.place (TopKBlock.after (KernelValue.tableOf x) r)

/-- Of scores none of which is −∞, round `r` takes out the place the sort puts `r`th, and finds its score there. -/
theorem round_eq (x : Vec Ideal S100000 .f32) (hx : ∀ p : Fin 100000, x (ix1 p) ≠ (⊥ : EReal)) (r : Fin 4) :
    TopKRound.lin (placeOf x r.val) = (RefValue.order x r).val
      ∧ TopKBlock.after (KernelValue.tableOf x) r.val (placeOf x r.val) = x (ix1 (RefValue.order x r)) := by
  obtain ⟨p, hp, h1, h2⟩ := Rounds.rounds_eq_sort (lin := TopKRound.lin) (v := TopKBlock.after (KernelValue.tableOf x)) (i := placeOf x)
    (n := 100000) (k := 4) (by decide) (fun p => x (ix1 p)) hx TopKRound.lin_injective KernelValue.at' KernelValue.lin_at
    (KernelValue.tableOf_at x) (KernelValue.tableOf_pad x) (fun r => TopKRound.round _) r
  have e : RefValue.order x r = p := hp
  rw [e]
  exact ⟨h1, h2⟩

/-- The kernel's second result is the reference's. -/
theorem values (x : Vec Ideal S100000 .f32) (hx : ∀ p : Fin 100000, x (ix1 p) ≠ (⊥ : EReal)) (r : Fin 4) :
    TopKRound.maxOf (TopKBlock.after (KernelValue.tableOf x) r.val) = x (ix1 (RefValue.order x r)) := by
  rw [← TopKRound.place_max]
  exact (round_eq x hx r).2

/-- The kernel's third result is the reference's. -/
theorem indices (x : Vec Ideal S100000 .f32) (hx : ∀ p : Fin 100000, x (ix1 p) ≠ (⊥ : EReal)) (r : Fin 4) :
    TopKRound.idxOf (TopKBlock.after (KernelValue.tableOf x) r.val) = BitVec.ofNat 32 (RefValue.order x r).val := by
  rw [TopKRound.idxOf_eq]
  exact congrArg (BitVec.ofNat 32) (round_eq x hx r).1

/-! ## The precondition -/

/-- The precondition's side condition. -/
theorem pre_facts : Cert.Pre_some_length.Facts := ⟨by decide⟩

/-- An integer that is not 0 is not 0 as a number. -/
theorem int_ne_zero (b : BitVec 32) (h : b ≠ 0#32) : (b.toInt : ℝ) ≠ 0 := by
  intro e
  exact h (BitVec.eq_of_toInt_eq (by simpa using Int.cast_eq_zero.mp e))

/-- Where the precondition holds, no row's length and the one length are both 0. -/
theorem pre_at [Cert.Pre_some_length.Facts] (x0 x1 x2 x3 : Vec Ideal S100000x768 .f32) (x4 x5 x6 x7 : Vec Ideal S1x768 .f32)
    (x8 : Vec Ideal S100000 .i32) (x9 : Vec Ideal S_ .i32)
    (h : Cert.Pre_some_length.fn (F := Ideal) x0 x1 x2 x3 x4 x5 x6 x7 x8 x9 = fun _ => 1#1) (n : Fin 100000) :
    x8 (ix1 n) ≠ (0#32 : BitVec 32) ∨ x9 ix0 ≠ (0#32 : BitVec 32) := by
  have e := congrFun h (ix1 n)
  by_contra hc
  push Not at hc
  revert e
  pointwise [Cert.Pre_some_length.fn]
  rw [hc.1, hc.2]
  decide

/-- Where the precondition holds, no score is −∞. -/
theorem scores_ne_bot [Cert.Pre_some_length.Facts] (x0 x1 x2 x3 : Vec Ideal S100000x768 .f32) (x4 x5 x6 x7 : Vec Ideal S1x768 .f32)
    (x8 : Vec Ideal S100000 .i32) (x9 : Vec Ideal S_ .i32)
    (h : Cert.Pre_some_length.fn (F := Ideal) x0 x1 x2 x3 x4 x5 x6 x7 x8 x9 = fun _ => 1#1) (n : Fin 100000) :
    KernelValue.scoresOf x0 x1 x2 x3 x4 x5 x6 x7 x8 x9 (ix1 n) ≠ (⊥ : EReal) :=
  Cosine.score_ne_bot _ _ _ _ _ _ _ _ _ _
    ((pre_at x0 x1 x2 x3 x4 x5 x6 x7 x8 x9 h n).imp (int_ne_zero (x8 (ix1 n))) (int_ne_zero (x9 ix0)))

end Cert.Equation

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Run
public import proofs.«01_k».proof.Proof.Equation
public import Idealize.ShloMosaic.Adequacy
public import Idealize.ShloMosaic.Init

@[expose] public section

noncomputable section

namespace Cert.Proof

open Idealize.ShloMosaic Idealize.ShloMosaic.TcCoe Idealize.SL.Sem

/-- Every execution of the reference ends with the arguments unchanged and every semaphore counter at zero. -/
theorem reference_frame : Cert.quiescent_ReferenceIdeal := fun m ρ _ =>
  (θ_run Cert.ReferenceIdeal.defs _ _).mono
    (fun r h => ⟨fun c => (h c).2.2.2, Idealize.ShloMosaic.sem_eq_zero_of_no_sems (by decide) r.2⟩)
    (Cert.ReferenceIdeal.Value.run (F := Ideal) m ρ)

/-- The scores of the kernel's arguments are the reference's scores of equal arguments. -/
theorem scores_shared (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) :
    Cert.ReferenceIdeal.Value.res_main_v69 m' c = Cert.KernelValue.kscores m c
      ∧ Cert.ReferenceIdeal.Value.res_main_values m' c
        = (fun j => Cert.KernelValue.kscores m c (ix1 (Cert.RefValue.order (Cert.KernelValue.kscores m c) (j 0))))
      ∧ Cert.ReferenceIdeal.Value.res_main_indices m' c
        = (fun j => BitVec.ofNat 32 (Cert.RefValue.order (Cert.KernelValue.kscores m c) (j 0)).val) := by
  obtain ⟨e0, e1, e2, e3, e4, e5, e6, e7, e8, e9⟩ := h0
  rw [Cert.ReferenceIdeal.Read.val_main_v69_eq, Cert.ReferenceIdeal.Read.val_main_values_eq,
    Cert.ReferenceIdeal.Read.val_main_indices_eq, e0, e1, e2, e3, e4, e5, e6, e7, e8, e9]
  unfold Cert.ReferenceIdeal.Read.val_main_values Cert.ReferenceIdeal.Read.val_main_indices
  rw [Cert.RefValue.scores_eq]
  exact ⟨rfl, Cert.RefValue.values_eq _, Cert.RefValue.indices_eq _⟩

/-- The kernel and the reference, of equal arguments that meet the precondition, end with equal results. -/
theorem equal [Cert.Pre_some_length.Facts] : Cert.algebraic_KernelIdeal_ReferenceIdeal_pre_some_length := by
  intro m g m' g' hpre hargs
  refine ⟨fun c => Cert.KernelValue.kscores m c,
    fun c j => Cert.KernelValue.kscores m c (ix1 (Cert.RefValue.order (Cert.KernelValue.kscores m c) (j 0))),
    fun c j => BitVec.ofNat 32 (Cert.RefValue.order (Cert.KernelValue.kscores m c) (j 0)).val, ?_, ?_⟩
  · refine (θ_run Cert.KernelIdeal.defs _ _).mono (fun r h c => ?_) (Cert.KernelRun.run (F := Ideal) m g)
    have hx := Cert.Equation.scores_ne_bot _ _ _ _ _ _ _ _ _ _ (hpre c)
    obtain ⟨⟨h0, h1, h2⟩, ha⟩ := h c
    refine ⟨h0.trans (Cert.KernelValue.res0 m g c), (h1.trans (Cert.KernelValue.res1 m g c)).trans ?_,
      (h2.trans (Cert.KernelValue.res2 m g c)).trans ?_, ha⟩
    · exact funext fun j => Cert.Equation.values _ hx (j 0)
    · exact funext fun j => Cert.Equation.indices _ hx (j 0)
  · refine (θ_run Cert.ReferenceIdeal.defs _ _).mono (fun r h c => ?_) (Cert.ReferenceIdeal.Value.run (F := Ideal) m' g')
    obtain ⟨e0, e1, e2⟩ := scores_shared m m' c (hargs c)
    obtain ⟨h0, h1, h2, ha⟩ := h c
    exact ⟨h0.trans e0, h1.trans e1, h2.trans e2, ha⟩

/-- The claim. -/
theorem claim : Cert.Claim :=
  ⟨Cert.Kernel.Gen.facts, Cert.KernelIdeal.Gen.facts, Cert.ReferenceIdeal.Gen.facts, Cert.Equation.pre_facts,
    fun m ρ _ => Cert.Kernel.Gen.frame m ρ, fun m ρ _ => Cert.KernelIdeal.Gen.frame m ρ, fun m ρ _ => Cert.KernelIdeal.Gen.frame m ρ,
    reference_frame, fun m ρ _ => reference_frame m ρ trivial, trivial,
    haveI := Cert.Equation.pre_facts; equal⟩

end Cert.Proof

end
